-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonnegative [hPre_scales_nonnegative : Cert.Pre_scales_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonnegative [hPre_scales_nonnegative : Cert.Pre_scales_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_nonnegative [hKernelIdeal : Cert.KernelIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_nonnegative [hReferenceIdeal : Cert.ReferenceIdeal.Facts] [hPre_scales_nonnegative : Cert.Pre_scales_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def preserves_Kernel_KernelIdeal : Prop :=
  True

def algebraic_KernelIdeal_ReferenceIdeal_pre_scales_nonnegative [hKernelIdeal : Cert.KernelIdeal.Facts] [hReferenceIdeal : Cert.ReferenceIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)
      ∧ m' ((c.tc : Thread Cert.OutReferenceIdeal.nD Cert.OutReferenceIdeal.τ).loc Cert.OutReferenceIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0_0) = v0 c
          ∧ r.2.mem ((c.tc : Thread Cert.OutReferenceIdeal.nD Cert.OutReferenceIdeal.τ).loc Cert.OutReferenceIdeal.main_v0_1) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutReferenceIdeal : Cert.OutReferenceIdeal.Facts) (hPre_scales_nonnegative : Cert.Pre_scales_nonnegative.Facts),
    quiescent_Kernel (hKernel := hKernel)
    ∧ quiescent_KernelIdeal (hKernelIdeal := hKernelIdeal)
    ∧ quiescent_KernelIdeal_pre_scales_nonnegative (hKernelIdeal := hKernelIdeal) (hPre_scales_nonnegative := hPre_scales_nonnegative)
    ∧ quiescent_ReferenceIdeal (hReferenceIdeal := hReferenceIdeal)
    ∧ quiescent_ReferenceIdeal_pre_scales_nonnegative (hReferenceIdeal := hReferenceIdeal) (hPre_scales_nonnegative := hPre_scales_nonnegative)
    ∧ quiescent_Out (hOut := hOut)
    ∧ quiescent_OutIdeal (hOutIdeal := hOutIdeal)
    ∧ quiescent_OutReferenceIdeal (hOutReferenceIdeal := hOutReferenceIdeal)
    ∧ preserves_Kernel_KernelIdeal
    ∧ algebraic_KernelIdeal_ReferenceIdeal_pre_scales_nonnegative (hKernelIdeal := hKernelIdeal) (hReferenceIdeal := hReferenceIdeal) (hPre_scales_nonnegative := hPre_scales_nonnegative)
    ∧ preserves_Out_OutIdeal
    ∧ algebraic_OutIdeal_OutReferenceIdeal (hOutIdeal := hOutIdeal) (hOutReferenceIdeal := hOutReferenceIdeal)
-- ==== Pre_scales_nonnegative.lean ====
abbrev S2048x9216 : Shape := ⟨2, ![2048, 9216]⟩
abbrev S9216x5632 : Shape := ⟨2, ![9216, 5632]⟩
abbrev S6x12x5632 : Shape := ⟨3, ![6, 12, 5632]⟩
abbrev S_ : Shape := ⟨0, ![]⟩

class Facts : Prop where
  bcast_S_S6x12x5632 : S_.BroadcastsInDim S6x12x5632 (![] : Fin 0 → Fin S6x12x5632.rank)

variable [Facts]

def fn {F : FTy → Type} [FloatOps F] (main_arg0 : FVec F S2048x9216 .bf16) (main_arg1 : FVec F S2048x9216 .bf16) (main_arg2 : FVec F S9216x5632 .fp8e4m3) (main_arg3 : FVec F S6x12x5632 .f32) (main_arg4 : FVec F S9216x5632 .fp8e4m3) (main_arg5 : FVec F S6x12x5632 .f32) (main_arg6 : FVec F S9216x5632 .fp8e4m3) (main_arg7 : FVec F S6x12x5632 .f32) : IVec S6x12x5632 1 × IVec S6x12x5632 1 × IVec S6x12x5632 1 :=
  let main_cst : FVec F S_ .f32 := constant S_ .f32 0x00000000#32
  let main_v0 : FVec F S6x12x5632 .f32 := broadcastInDim S6x12x5632 ![] bcast_S_S6x12x5632 main_cst
  let main_v1 : IVec S6x12x5632 1 := cmpf .oge main_arg3 main_v0
  let main_cst_0 : FVec F S_ .f32 := constant S_ .f32 0x00000000#32
  let main_v2 : FVec F S6x12x5632 .f32 := broadcastInDim S6x12x5632 ![] bcast_S_S6x12x5632 main_cst_0
  let main_v3 : IVec S6x12x5632 1 := cmpf .oge main_arg5 main_v2
  let main_cst_1 : FVec F S_ .f32 := constant S_ .f32 0x00000000#32
  let main_v4 : FVec F S6x12x5632 .f32 := broadcastInDim S6x12x5632 ![] bcast_S_S6x12x5632 main_cst_1
  let main_v5 : IVec S6x12x5632 1 := cmpf .oge main_arg7 main_v4
  (main_v1, main_v3, main_v5)
-- ==== Kernel.lean ====
abbrev S2048x9216 : Shape := ⟨2, ![2048, 9216]⟩
abbrev S9216x5632 : Shape := ⟨2, ![9216, 5632]⟩
abbrev S6x12x5632 : Shape := ⟨3, ![6, 12, 5632]⟩
abbrev S2048x5632 : Shape := ⟨2, ![2048, 5632]⟩
abbrev S5632x2048 : Shape := ⟨2, ![5632, 2048]⟩
abbrev S2048x768 : Shape := ⟨2, ![2048, 768]⟩
abbrev S768x512 : Shape := ⟨2, ![768, 512]⟩
abbrev S1x12x512 : Shape := ⟨3, ![1, 12, 512]⟩
abbrev S2048x512 : Shape := ⟨2, ![2048, 512]⟩
abbrev S512x2048 : Shape := ⟨2, ![512, 2048]⟩
abbrev S12x512 : Shape := ⟨2, ![12, 512]⟩
abbrev S512 : Shape := ⟨1, ![512]⟩
abbrev S1x512 : Shape := ⟨2, ![1, 512]⟩
abbrev S128x512 : Shape := ⟨2, ![128, 512]⟩

abbrev nBuf : Space → Nat
  | .hbm => 11
  | .vmem => 26
  | .smem => 0
  | _ => 0

abbrev bufTy : (tb : Table) → Fin (tcTables nBuf tb) → BufTy
  | .hbm, ⟨0, _⟩ => ⟨S2048x9216, .bf16⟩
  | .hbm, ⟨1, _⟩ => ⟨S2048x9216, .bf16⟩
  | .hbm, ⟨2, _⟩ => ⟨S9216x5632, .fp8e4m3⟩
  | .hbm, ⟨3, _⟩ => ⟨S6x12x5632, .f32⟩
  | .hbm, ⟨4, _⟩ => ⟨S9216x5632, .fp8e4m3⟩
  | .hbm, ⟨5, _⟩ => ⟨S6x12x5632, .f32⟩
  | .hbm, ⟨6, _⟩ => ⟨S9216x5632, .fp8e4m3⟩
  | .hbm, ⟨7, _⟩ => ⟨S6x12x5632, .f32⟩
  | .hbm, ⟨8, _⟩ => ⟨S2048x5632, .f32⟩
  | .hbm, ⟨9, _⟩ => ⟨S2048x5632, .f32⟩
  | .hbm, ⟨10, _⟩ => ⟨S5632x2048, .f32⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S768x512, .fp8e4m3⟩
  | .local _ .vmem, ⟨5, _⟩ => ⟨S768x512, .fp8e4m3⟩
  | .local _ .vmem, ⟨6, _⟩ => ⟨S1x12x512, .f32⟩
  | .local _ .vmem, ⟨7, _⟩ => ⟨S1x12x512, .f32⟩
  | .local _ .vmem, ⟨8, _⟩ => ⟨S768x512, .fp8e4m3⟩
  | .local _ .vmem, ⟨9, _⟩ => ⟨S768x512, .fp8e4m3⟩
  | .local _ .vmem, ⟨10, _⟩ => ⟨S1x12x512, .f32⟩
  | .local _ .vmem, ⟨11, _⟩ => ⟨S1x12x512, .f32⟩
  | .local _ .vmem, ⟨12, _⟩ => ⟨S768x512, .fp8e4m3⟩
  | .local _ .vmem, ⟨13, _⟩ => ⟨S768x512, .fp8e4m3⟩
  | .local _ .vmem, ⟨14, _⟩ => ⟨S1x12x512, .f32⟩
  | .local _ .vmem, ⟨15, _⟩ => ⟨S1x12x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S512x2048, .f32⟩
  | .local _ .vmem, ⟨21, _⟩ => ⟨S512x2048, .f32⟩
  | .local _ .vmem, ⟨22, _⟩ => ⟨S2048x512, .f32⟩
  | .local _ .vmem, ⟨23, _⟩ => ⟨S768x512, .bf16⟩
  | .local _ .vmem, ⟨24, _⟩ => ⟨S768x512, .bf16⟩
  | .local _ .vmem, ⟨25, _⟩ => ⟨S768x512, .bf16⟩
  | _, _ => ⟨S2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 12], ![false, false]⟩

def k0_cond2 (i : grid0.Coords) : BitVec 1 :=
  let arg1 : BitVec 32 := BitVec.ofNat 32 (i 1).val
  let c11_i32 : BitVec 32 := 11#32
  let v369 : BitVec 1 := Scalar.cmpi .eq arg1 c11_i32
  let v370 : BitVec 32 := Scalar.extui v369
  let c0_i32_197 : BitVec 32 := 0#32
  let v371 : BitVec 1 := Scalar.cmpi .ne v370 c0_i32_197
  v371

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x12x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x12x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S2048x9216 : Shape := ⟨2, ![2048, 9216]⟩
abbrev S9216x5632 : Shape := ⟨2, ![9216, 5632]⟩
abbrev S6x12x5632 : Shape := ⟨3, ![6, 12, 5632]⟩
abbrev S2048x5632 : Shape := ⟨2, ![2048, 5632]⟩
abbrev S5632x2048 : Shape := ⟨2, ![5632, 2048]⟩
abbrev S6x12x128x5632 : Shape := ⟨4, ![6, 12, 128, 5632]⟩
abbrev S6x12x1x5632 : Shape := ⟨4, ![6, 12, 1, 5632]⟩

abbrev nBuf : Space → Nat
  | .hbm => 11
  | .vmem => 11
  | .smem => 0
  | _ => 0

abbrev bufTy : (tb : Table) → Fin (tcTables nBuf tb) → BufTy
  | .hbm, ⟨0, _⟩ => ⟨S2048x9216, .bf16⟩
  | .hbm, ⟨1, _⟩ => ⟨S2048x9216, .bf16⟩
  | .hbm, ⟨2, _⟩ => ⟨S9216x5632, .fp8e4m3⟩
  | .hbm, ⟨3, _⟩ => ⟨S6x12x5632, .f32⟩
  | .hbm, ⟨4, _⟩ => ⟨S9216x5632, .fp8e4m3⟩
  | .hbm, ⟨5, _⟩ => ⟨S6x12x5632, .f32⟩
  | .hbm, ⟨6, _⟩ => ⟨S9216x5632, .fp8e4m3⟩
  | .hbm, ⟨7, _⟩ => ⟨S6x12x5632, .f32⟩
  | .hbm, ⟨8, _⟩ => ⟨S2048x5632, .f32⟩
  | .hbm, ⟨9, _⟩ => ⟨S2048x5632, .f32⟩
  | .hbm, ⟨10, _⟩ => ⟨S5632x2048, .f32⟩
  | .local _ .vmem, ⟨0, _⟩ => ⟨S2048x9216, .bf16⟩
  | .local _ .vmem, ⟨1, _⟩ => ⟨S2048x9216, .bf16⟩
  | .local _ .vmem, ⟨2, _⟩ => ⟨S9216x5632, .fp8e4m3⟩
  | .local _ .vmem, ⟨3, _⟩ => ⟨S6x12x5632, .f32⟩
  | .local _ .vmem, ⟨4, _⟩ => ⟨S9216x5632, .fp8e4m3⟩
  | .local _ .vmem, ⟨5, _⟩ => ⟨S6x12x5632, .f32⟩
  | .local _ .vmem, ⟨6, _⟩ => ⟨S9216x5632, .fp8e4m3⟩
  | .local _ .vmem, ⟨7, _⟩ => ⟨S6x12x5632, .f32⟩
  | .local _ .vmem, ⟨8, _⟩ => ⟨S2048x5632, .f32⟩
  | .local _ .vmem, ⟨9, _⟩ => ⟨S2048x5632, .f32⟩
  | .local _ .vmem, ⟨10, _⟩ => ⟨S5632x2048, .f32⟩
  | _, _ => ⟨S2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x9216 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x9216 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x12x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x5632 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x12x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x5632 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x12x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5632x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Out.lean ====
abbrev S16x44 : Shape := ⟨2, ![16, 44]⟩
abbrev S44x16 : Shape := ⟨2, ![44, 16]⟩
abbrev S36x256x5632 : Shape := ⟨3, ![36, 256, 5632]⟩
abbrev S2048x5632 : Shape := ⟨2, ![2048, 5632]⟩
abbrev S5632x2048 : Shape := ⟨2, ![5632, 2048]⟩
abbrev S9216x2048 : Shape := ⟨2, ![9216, 2048]⟩
abbrev S2x256x512 : Shape := ⟨3, ![2, 256, 512]⟩
abbrev S2048x512 : Shape := ⟨2, ![2048, 512]⟩
abbrev S512x2048 : Shape := ⟨2, ![512, 2048]⟩
abbrev S128x128 : Shape := ⟨2, ![128, 128]⟩
abbrev S1x1 : Shape := ⟨2, ![1, 1]⟩
abbrev S256x2048 : Shape := ⟨2, ![256, 2048]⟩
abbrev S1x256x512 : Shape := ⟨3, ![1, 256, 512]⟩
abbrev S256x512 : Shape := ⟨2, ![256, 512]⟩

abbrev nBuf : Space → Nat
  | .hbm => 11
  | .vmem => 21
  | .smem => 3
  | _ => 0

abbrev bufTy : (tb : Table) → Fin (tcTables nBuf tb) → BufTy
  | .hbm, ⟨0, _⟩ => ⟨S16x44, .f32⟩
  | .hbm, ⟨1, _⟩ => ⟨S16x44, .f32⟩
  | .hbm, ⟨2, _⟩ => ⟨S44x16, .f32⟩
  | .hbm, ⟨3, _⟩ => ⟨S36x256x5632, .bf16⟩
  | .hbm, ⟨4, _⟩ => ⟨S36x256x5632, .bf16⟩
  | .hbm, ⟨5, _⟩ => ⟨S36x256x5632, .bf16⟩
  | .hbm, ⟨6, _⟩ => ⟨S2048x5632, .fp8e4m3⟩
  | .hbm, ⟨7, _⟩ => ⟨S2048x5632, .fp8e4m3⟩
  | .hbm, ⟨8, _⟩ => ⟨S5632x2048, .fp8e4m3⟩
  | .hbm, ⟨9, _⟩ => ⟨S9216x2048, .bf16⟩
  | .hbm, ⟨10, _⟩ => ⟨S9216x2048, .bf16⟩
  | .local _ .vmem, ⟨0, _⟩ => ⟨S2x256x512, .bf16⟩
  | .local _ .vmem, ⟨1, _⟩ => ⟨S2x256x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x512, .bf16⟩
  | .local _ .vmem, ⟨5, _⟩ => ⟨S2x256x512, .bf16⟩
  | .local _ .vmem, ⟨6, _⟩ => ⟨S2048x512, .fp8e4m3⟩
  | .local _ .vmem, ⟨7, _⟩ => ⟨S2048x512, .fp8e4m3⟩
  | .local _ .vmem, ⟨8, _⟩ => ⟨S2048x512, .fp8e4m3⟩
  | .local _ .vmem, ⟨9, _⟩ => ⟨S2048x512, .fp8e4m3⟩
  | .local _ .vmem, ⟨10, _⟩ => ⟨S512x2048, .fp8e4m3⟩
  | .local _ .vmem, ⟨11, _⟩ => ⟨S512x2048, .fp8e4m3⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S2048x512, .bf16⟩
  | .local _ .vmem, ⟨17, _⟩ => ⟨S2048x512, .bf16⟩
  | .local _ .vmem, ⟨18, _⟩ => ⟨S512x2048, .bf16⟩
  | .local _ .vmem, ⟨19, _⟩ => ⟨S512x2048, .f32⟩
  | .local _ .vmem, ⟨20, _⟩ => ⟨S512x2048, .f32⟩
  | .local _ .smem, ⟨0, _⟩ => ⟨S16x44, .f32⟩
  | .local _ .smem, ⟨1, _⟩ => ⟨S16x44, .f32⟩
  | .local _ .smem, ⟨2, _⟩ => ⟨S44x16, .f32⟩
  | _, _ => ⟨S16x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![18, 11], ![false, false]⟩

def k0_off1 (i : grid0.Coords) (c0_i32_2 : BitVec 32) : Fin 2 → Nat :=
  let c0_3 : Index := 0#32
  let arg1 : BitVec 32 := BitVec.ofNat 32 (i 1).val
  let c4_i32 : BitVec 32 := 4#32
  let v5 : BitVec 32 := Scalar.muli arg1 c4_i32
  let v6 : BitVec 32 := Scalar.addi v5 c0_i32_2
  let v7 : Index := Scalar.indexCast v6
  ![0, v7.toNat]
def k0_off2 (i : grid0.Coords) (c0_i32_16 : BitVec 32) : Fin 2 → Nat :=
  let arg1 : BitVec 32 := BitVec.ofNat 32 (i 1).val
  let c4_i32_15 : BitVec 32 := 4#32
  let v29 : BitVec 32 := Scalar.muli arg1 c4_i32_15
  let v30 : BitVec 32 := Scalar.addi v29 c0_i32_16
  let v31 : Index := Scalar.indexCast v30
  let c0_17 : Index := 0#32
  ![v31.toNat, 0]
def k0_off3 (i : grid0.Coords) (c0_i32_80 : BitVec 32) : Fin 2 → Nat :=
  let c1 : Index := 1#32
  let arg1 : BitVec 32 := BitVec.ofNat 32 (i 1).val
  let c4_i32_79 : BitVec 32 := 4#32
  let v149 : BitVec 32 := Scalar.muli arg1 c4_i32_79
  let v150 : BitVec 32 := Scalar.addi v149 c0_i32_80
  let v151 : Index := Scalar.indexCast v150
  ![1, v151.toNat]
def k0_off4 (i : grid0.Coords) (c0_i32_93 : BitVec 32) : Fin 2 → Nat :=
  let arg1 : BitVec 32 := BitVec.ofNat 32 (i 1).val
  let c4_i32_92 : BitVec 32 := 4#32
  let v173 : BitVec 32 := Scalar.muli arg1 c4_i32_92
  let v174 : BitVec 32 := Scalar.addi v173 c0_i32_93
  let v175 : Index := Scalar.indexCast v174
  let c1_94 : Index := 1#32
  ![v175.toNat, 1]
def k0_off5 (i : grid0.Coords) (c0_i32_163 : BitVec 32) : Fin 2 → Nat :=
  let c2 : Index := 2#32
  let arg1 : BitVec 32 := BitVec.ofNat 32 (i 1).val
  let c4_i32_162 : BitVec 32 := 4#32
  let v293 : BitVec 32 := Scalar.muli arg1 c4_i32_162
  let v294 : BitVec 32 := Scalar.addi v293 c0_i32_163
  let v295 : Index := Scalar.indexCast v294
  ![2, v295.toNat]
def k0_off6 (i : grid0.Coords) (c0_i32_176 : BitVec 32) : Fin 2 → Nat :=
  let arg1 : BitVec 32 := BitVec.ofNat 32 (i 1).val
  let c4_i32_175 : BitVec 32 := 4#32
  let v317 : BitVec 32 := Scalar.muli arg1 c4_i32_175
  let v318 : BitVec 32 := Scalar.addi v317 c0_i32_176
  let v319 : Index := Scalar.indexCast v318
  let c2_177 : Index := 2#32
  ![v319.toNat, 2]
def k0_off7 (i : grid0.Coords) (c0_i32_246 : BitVec 32) : Fin 2 → Nat :=
  let c3 : Index := 3#32
  let arg1 : BitVec 32 := BitVec.ofNat 32 (i 1).val
  let c4_i32_245 : BitVec 32 := 4#32
  let v437 : BitVec 32 := Scalar.muli arg1 c4_i32_245
  let v438 : BitVec 32 := Scalar.addi v437 c0_i32_246
  let v439 : Index := Scalar.indexCast v438
  ![3, v439.toNat]
def k0_off8 (i : grid0.Coords) (c0_i32_259 : BitVec 32) : Fin 2 → Nat :=
  let arg1 : BitVec 32 := BitVec.ofNat 32 (i 1).val
  let c4_i32_258 : BitVec 32 := 4#32
  let v461 : BitVec 32 := Scalar.muli arg1 c4_i32_258
  let v462 : BitVec 32 := Scalar.addi v461 c0_i32_259
  let v463 : Index := Scalar.indexCast v462
  let c3_260 : Index := 3#32
  ![v463.toNat, 3]
def k0_off9 (i : grid0.Coords) (c0_i32_328 : BitVec 32) : Fin 2 → Nat :=
  let c4 : Index := 4#32
  let arg1 : BitVec 32 := BitVec.ofNat 32 (i 1).val
  let c4_i32_327 : BitVec 32 := 4#32
  let v581 : BitVec 32 := Scalar.muli arg1 c4_i32_327
  let v582 : BitVec 32 := Scalar.addi v581 c0_i32_328
  let v583 : Index := Scalar.indexCast v582
  ![4, v583.toNat]
def k0_off10 (i : grid0.Coords) (c0_i32_341 : BitVec 32) : Fin 2 → Nat :=
  let arg1 : BitVec 32 := BitVec.ofNat 32 (i 1).val
  let c4_i32_340 : BitVec 32 := 4#32
  let v605 : BitVec 32 := Scalar.muli arg1 c4_i32_340
  let v606 : BitVec 32 := Scalar.addi v605 c0_i32_341
  let v607 : Index := Scalar.indexCast v606
  let c4_342 : Index := 4#32
  ![v607.toNat, 4]
def k0_off11 (i : grid0.Coords) (c0_i32_410 : BitVec 32) : Fin 2 → Nat :=
  let c5 : Index := 5#32
  let arg1 : BitVec 32 := BitVec.ofNat 32 (i 1).val
  let c4_i32_409 : BitVec 32 := 4#32
  let v725 : BitVec 32 := Scalar.muli arg1 c4_i32_409
  let v726 : BitVec 32 := Scalar.addi v725 c0_i32_410
  let v727 : Index := Scalar.indexCast v726
  ![5, v727.toNat]
def k0_off12 (i : grid0.Coords) (c0_i32_423 : BitVec 32) : Fin 2 → Nat :=
  let arg1 : BitVec 32 := BitVec.ofNat 32 (i 1).val
  let c4_i32_422 : BitVec 32 := 4#32
  let v749 : BitVec 32 := Scalar.muli arg1 c4_i32_422
  let v750 : BitVec 32 := Scalar.addi v749 c0_i32_423
  let v751 : Index := Scalar.indexCast v750
  let c5_424 : Index := 5#32
  ![v751.toNat, 5]
def k0_off13 (i : grid0.Coords) (c0_i32_492 : BitVec 32) : Fin 2 → Nat :=
  let c6 : Index := 6#32
  let arg1 : BitVec 32 := BitVec.ofNat 32 (i 1).val
  let c4_i32_491 : BitVec 32 := 4#32
  let v869 : BitVec 32 := Scalar.muli arg1 c4_i32_491
  let v870 : BitVec 32 := Scalar.addi v869 c0_i32_492
  let v871 : Index := Scalar.indexCast v870
  ![6, v871.toNat]
def k0_off14 (i : grid0.Coords) (c0_i32_505 : BitVec 32) : Fin 2 → Nat :=
  let arg1 : BitVec 32 := BitVec.ofNat 32 (i 1).val
  let c4_i32_504 : BitVec 32 := 4#32
  let v893 : BitVec 32 := Scalar.muli arg1 c4_i32_504
  let v894 : BitVec 32 := Scalar.addi v893 c0_i32_505
  let v895 : Index := Scalar.indexCast v894
  let c6_506 : Index := 6#32
  ![v895.toNat, 6]
def k0_off15 (i : grid0.Coords) (c0_i32_574 : BitVec 32) : Fin 2 → Nat :=
  let c7 : Index := 7#32
  let arg1 : BitVec 32 := BitVec.ofNat 32 (i 1).val
  let c4_i32_573 : BitVec 32 := 4#32
  let v1013 : BitVec 32 := Scalar.muli arg1 c4_i32_573
  let v1014 : BitVec 32 := Scalar.addi v1013 c0_i32_574
  let v1015 : Index := Scalar.indexCast v1014
  ![7, v1015.toNat]
def k0_off16 (i : grid0.Coords) (c0_i32_587 : BitVec 32) : Fin 2 → Nat :=
  let arg1 : BitVec 32 := BitVec.ofNat 32 (i 1).val
  let c4_i32_586 : BitVec 32 := 4#32
  let v1037 : BitVec 32 := Scalar.muli arg1 c4_i32_586
  let v1038 : BitVec 32 := Scalar.addi v1037 c0_i32_587
  let v1039 : Index := Scalar.indexCast v1038
  let c7_588 : Index := 7#32
  ![v1039.toNat, 7]
def k0_off17 (i : grid0.Coords) (c0_i32_656 : BitVec 32) : Fin 2 → Nat :=
  let c8 : Index := 8#32
  let arg1 : BitVec 32 := BitVec.ofNat 32 (i 1).val
  let c4_i32_655 : BitVec 32 := 4#32
  let v1157 : BitVec 32 := Scalar.muli arg1 c4_i32_655
  let v1158 : BitVec 32 := Scalar.addi v1157 c0_i32_656
  let v1159 : Index := Scalar.indexCast v1158
  ![8, v1159.toNat]
def k0_off18 (i : grid0.Coords) (c0_i32_669 : BitVec 32) : Fin 2 → Nat :=
  let arg1 : BitVec 32 := BitVec.ofNat 32 (i 1).val
  let c4_i32_668 : BitVec 32 := 4#32
  let v1181 : BitVec 32 := Scalar.muli arg1 c4_i32_668
  let v1182 : BitVec 32 := Scalar.addi v1181 c0_i32_669
  let v1183 : Index := Scalar.indexCast v1182
  let c8_670 : Index := 8#32
  ![v1183.toNat, 8]
def k0_off19 (i : grid0.Coords) (c0_i32_738 : BitVec 32) : Fin 2 → Nat :=
  let c9 : Index := 9#32
  let arg1 : BitVec 32 := BitVec.ofNat 32 (i 1).val
  let c4_i32_737 : BitVec 32 := 4#32
  let v1301 : BitVec 32 := Scalar.muli arg1 c4_i32_737
  let v1302 : BitVec 32 := Scalar.addi v1301 c0_i32_738
  let v1303 : Index := Scalar.indexCast v1302
  ![9, v1303.toNat]
def k0_off20 (i : grid0.Coords) (c0_i32_751 : BitVec 32) : Fin 2 → Nat :=
  let arg1 : BitVec 32 := BitVec.ofNat 32 (i 1).val
  let c4_i32_750 : BitVec 32 := 4#32
  let v1325 : BitVec 32 := Scalar.muli arg1 c4_i32_750
  let v1326 : BitVec 32 := Scalar.addi v1325 c0_i32_751
  let v1327 : Index := Scalar.indexCast v1326
  let c9_752 : Index := 9#32
  ![v1327.toNat, 9]
def k0_off21 (i : grid0.Coords) (c0_i32_820 : BitVec 32) : Fin 2 → Nat :=
  let c10 : Index := 10#32
  let arg1 : BitVec 32 := BitVec.ofNat 32 (i 1).val
  let c4_i32_819 : BitVec 32 := 4#32
  let v1445 : BitVec 32 := Scalar.muli arg1 c4_i32_819
  let v1446 : BitVec 32 := Scalar.addi v1445 c0_i32_820
  let v1447 : Index := Scalar.indexCast v1446
  ![10, v1447.toNat]
def k0_off22 (i : grid0.Coords) (c0_i32_833 : BitVec 32) : Fin 2 → Nat :=
  let arg1 : BitVec 32 := BitVec.ofNat 32 (i 1).val
  let c4_i32_832 : BitVec 32 := 4#32
  let v1469 : BitVec 32 := Scalar.muli arg1 c4_i32_832
  let v1470 : BitVec 32 := Scalar.addi v1469 c0_i32_833
  let v1471 : Index := Scalar.indexCast v1470
  let c10_834 : Index := 10#32
  ![v1471.toNat, 10]
def k0_off23 (i : grid0.Coords) (c0_i32_902 : BitVec 32) : Fin 2 → Nat :=
  let c11 : Index := 11#32
  let arg1 : BitVec 32 := BitVec.ofNat 32 (i 1).val
  let c4_i32_901 : BitVec 32 := 4#32
  let v1589 : BitVec 32 := Scalar.muli arg1 c4_i32_901
  let v1590 : BitVec 32 := Scalar.addi v1589 c0_i32_902
  let v1591 : Index := Scalar.indexCast v1590
  ![11, v1591.toNat]
def k0_off24 (i : grid0.Coords) (c0_i32_915 : BitVec 32) : Fin 2 → Nat :=
  let arg1 : BitVec 32 := BitVec.ofNat 32 (i 1).val
  let c4_i32_914 : BitVec 32 := 4#32
  let v1613 : BitVec 32 := Scalar.muli arg1 c4_i32_914
  let v1614 : BitVec 32 := Scalar.addi v1613 c0_i32_915
  let v1615 : Index := Scalar.indexCast v1614
  let c11_916 : Index := 11#32
  ![v1615.toNat, 11]
def k0_off25 (i : grid0.Coords) (c0_i32_984 : BitVec 32) : Fin 2 → Nat :=
  let c12 : Index := 12#32
  let arg1 : BitVec 32 := BitVec.ofNat 32 (i 1).val
  let c4_i32_983 : BitVec 32 := 4#32
  let v1733 : BitVec 32 := Scalar.muli arg1 c4_i32_983
  let v1734 : BitVec 32 := Scalar.addi v1733 c0_i32_984
  let v1735 : Index := Scalar.indexCast v1734
  ![12, v1735.toNat]
def k0_off26 (i : grid0.Coords) (c0_i32_997 : BitVec 32) : Fin 2 → Nat :=
  let arg1 : BitVec 32 := BitVec.ofNat 32 (i 1).val
  let c4_i32_996 : BitVec 32 := 4#32
  let v1757 : BitVec 32 := Scalar.muli arg1 c4_i32_996
  let v1758 : BitVec 32 := Scalar.addi v1757 c0_i32_997
  let v1759 : Index := Scalar.indexCast v1758
  let c12_998 : Index := 12#32
  ![v1759.toNat, 12]
def k0_off27 (i : grid0.Coords) (c0_i32_1066 : BitVec 32) : Fin 2 → Nat :=
  let c13 : Index := 13#32
  let arg1 : BitVec 32 := BitVec.ofNat 32 (i 1).val
  let c4_i32_1065 : BitVec 32 := 4#32
  let v1877 : BitVec 32 := Scalar.muli arg1 c4_i32_1065
  let v1878 : BitVec 32 := Scalar.addi v1877 c0_i32_1066
  let v1879 : Index := Scalar.indexCast v1878
  ![13, v1879.toNat]
def k0_off28 (i : grid0.Coords) (c0_i32_1079 : BitVec 32) : Fin 2 → Nat :=
  let arg1 : BitVec 32 := BitVec.ofNat 32 (i 1).val
  let c4_i32_1078 : BitVec 32 := 4#32
  let v1901 : BitVec 32 := Scalar.muli arg1 c4_i32_1078
  let v1902 : BitVec 32 := Scalar.addi v1901 c0_i32_1079
  let v1903 : Index := Scalar.indexCast v1902
  let c13_1080 : Index := 13#32
  ![v1903.toNat, 13]
def k0_off29 (i : grid0.Coords) (c0_i32_1148 : BitVec 32) : Fin 2 → Nat :=
  let c14 : Index := 14#32
  let arg1 : BitVec 32 := BitVec.ofNat 32 (i 1).val
  let c4_i32_1147 : BitVec 32 := 4#32
  let v2021 : BitVec 32 := Scalar.muli arg1 c4_i32_1147
  let v2022 : BitVec 32 := Scalar.addi v2021 c0_i32_1148
  let v2023 : Index := Scalar.indexCast v2022
  ![14, v2023.toNat]
def k0_off30 (i : grid0.Coords) (c0_i32_1161 : BitVec 32) : Fin 2 → Nat :=
  let arg1 : BitVec 32 := BitVec.ofNat 32 (i 1).val
  let c4_i32_1160 : BitVec 32 := 4#32
  let v2045 : BitVec 32 := Scalar.muli arg1 c4_i32_1160
  let v2046 : BitVec 32 := Scalar.addi v2045 c0_i32_1161
  let v2047 : Index := Scalar.indexCast v2046
  let c14_1162 : Index := 14#32
  ![v2047.toNat, 14]
def k0_off31 (i : grid0.Coords) (c0_i32_1230 : BitVec 32) : Fin 2 → Nat :=
  let c15 : Index := 15#32
  let arg1 : BitVec 32 := BitVec.ofNat 32 (i 1).val
  let c4_i32_1229 : BitVec 32 := 4#32
  let v2165 : BitVec 32 := Scalar.muli arg1 c4_i32_1229
  let v2166 : BitVec 32 := Scalar.addi v2165 c0_i32_1230
  let v2167 : Index := Scalar.indexCast v2166
  ![15, v2167.toNat]
def k0_off32 (i : grid0.Coords) (c0_i32_1243 : BitVec 32) : Fin 2 → Nat :=
  let arg1 : BitVec 32 := BitVec.ofNat 32 (i 1).val
  let c4_i32_1242 : BitVec 32 := 4#32
  let v2189 : BitVec 32 := Scalar.muli arg1 c4_i32_1242
  let v2190 : BitVec 32 := Scalar.addi v2189 c0_i32_1243
  let v2191 : Index := Scalar.indexCast v2190
  let c15_1244 : Index := 15#32
  ![v2191.toNat, 15]
def k0_cond2 (i : grid0.Coords) : BitVec 1 :=
  let arg1 : BitVec 32 := BitVec.ofNat 32 (i 1).val
  let c10_i32 : BitVec 32 := 10#32
  let v2353 : BitVec 1 := Scalar.cmpi .eq arg1 c10_i32
  let v2354 : BitVec 32 := Scalar.extui v2353
  let c0_i32_1361 : BitVec 32 := 0#32
  let v2355 : BitVec 1 := Scalar.cmpi .ne v2354 c0_i32_1361
  v2355

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S16x44 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16x44 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S44x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== OutReferenceIdeal.lean ====
abbrev S16x44 : Shape := ⟨2, ![16, 44]⟩
abbrev S44x16 : Shape := ⟨2, ![44, 16]⟩
abbrev S36x256x5632 : Shape := ⟨3, ![36, 256, 5632]⟩
abbrev S2048x5632 : Shape := ⟨2, ![2048, 5632]⟩
abbrev S5632x2048 : Shape := ⟨2, ![5632, 2048]⟩
abbrev S9216x2048 : Shape := ⟨2, ![9216, 2048]⟩
abbrev S16x128x44x128 : Shape := ⟨4, ![16, 128, 44, 128]⟩
abbrev S16x1x44x1 : Shape := ⟨4, ![16, 1, 44, 1]⟩
abbrev S44x128x16x128 : Shape := ⟨4, ![44, 128, 16, 128]⟩
abbrev S44x1x16x1 : Shape := ⟨4, ![44, 1, 16, 1]⟩
abbrev S9216x5632 : Shape := ⟨2, ![9216, 5632]⟩

abbrev nBuf : Space → Nat
  | .hbm => 11
  | .vmem => 11
  | .smem => 0
  | _ => 0

abbrev bufTy : (tb : Table) → Fin (tcTables nBuf tb) → BufTy
  | .hbm, ⟨0, _⟩ => ⟨S16x44, .f32⟩
  | .hbm, ⟨1, _⟩ => ⟨S16x44, .f32⟩
  | .hbm, ⟨2, _⟩ => ⟨S44x16, .f32⟩
  | .hbm, ⟨3, _⟩ => ⟨S36x256x5632, .bf16⟩
  | .hbm, ⟨4, _⟩ => ⟨S36x256x5632, .bf16⟩
  | .hbm, ⟨5, _⟩ => ⟨S36x256x5632, .bf16⟩
  | .hbm, ⟨6, _⟩ => ⟨S2048x5632, .fp8e4m3⟩
  | .hbm, ⟨7, _⟩ => ⟨S2048x5632, .fp8e4m3⟩
  | .hbm, ⟨8, _⟩ => ⟨S5632x2048, .fp8e4m3⟩
  | .hbm, ⟨9, _⟩ => ⟨S9216x2048, .bf16⟩
  | .hbm, ⟨10, _⟩ => ⟨S9216x2048, .bf16⟩
  | .local _ .vmem, ⟨0, _⟩ => ⟨S16x44, .f32⟩
  | .local _ .vmem, ⟨1, _⟩ => ⟨S16x44, .f32⟩
  | .local _ .vmem, ⟨2, _⟩ => ⟨S44x16, .f32⟩
  | .local _ .vmem, ⟨3, _⟩ => ⟨S36x256x5632, .bf16⟩
  | .local _ .vmem, ⟨4, _⟩ => ⟨S36x256x5632, .bf16⟩
  | .local _ .vmem, ⟨5, _⟩ => ⟨S36x256x5632, .bf16⟩
  | .local _ .vmem, ⟨6, _⟩ => ⟨S2048x5632, .fp8e4m3⟩
  | .local _ .vmem, ⟨7, _⟩ => ⟨S2048x5632, .fp8e4m3⟩
  | .local _ .vmem, ⟨8, _⟩ => ⟨S5632x2048, .fp8e4m3⟩
  | .local _ .vmem, ⟨9, _⟩ => ⟨S9216x2048, .bf16⟩
  | .local _ .vmem, ⟨10, _⟩ => ⟨S9216x2048, .bf16⟩
  | _, _ => ⟨S16x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16x44 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x44 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S44x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x256x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x256x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S36x256x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x5632 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5632 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5632x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9216x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9216x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Widen.lean ====
/-
  WHAT ONE POINT OF THE WEIGHT-GRADIENT KERNEL WIDENS: the codes of a block of 768 tokens and 512 columns, each
  multiplied by the scale of its group of 128 tokens. The kernel picks a scale row out of the block of twelve by a
  select against the row index and a maximum over the rows, so what it multiplies by is the scale's maximum with zero.
-/
module

public import proofs.«01_k».proof.Proof.Gen.KernelIdeal.Value
public import Idealize.ShloMosaic.Lib.Tactic
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem Idealize.ShloMosaic.Tactic

namespace Cert.KernelIdeal.Val

open Cert.KernelIdeal Cert.KernelIdeal.Gen

/-- The first scale row of a token tile `n`, as the kernel computes it in 32-bit words: six rows a tile, two tiles a
    block of twelve rows. -/
theorem base_word : ∀ n : Fin 12, ∀ g : Fin 6,
    Scalar.addi (Scalar.muli (Scalar.remsi (BitVec.ofNat 32 n.val) 2#32) 6#32) (BitVec.ofNat 32 g.val)
      = BitVec.ofNat 32 (n.val % 2 * 6 + g.val) := by decide

/-- Equality of two small numbers, as 32-bit words. -/
theorem eq_word : ∀ a b : Fin 12,
    IntOp.cmpi .eq (BitVec.ofNat 32 a.val) (BitVec.ofNat 32 b.val) = if a = b then 1#1 else 0#1 := by decide

/-- The maximum over the rows of "row `b`, zero elsewhere" is the maximum of row `b` with zero. -/
theorem pick (f : Fin 12 → EReal) (b : Fin 12) :
    Finset.fold max (Ideal.ofBits .f32 4286578688#32)
      (fun x : Fin 12 => Scalar.select (IntOp.cmpi .eq (BitVec.ofNat 32 x.val) (BitVec.ofNat 32 b.val)) (f x) (0 : EReal))
      Finset.univ = max (f b) 0 := by
  have hbot : Ideal.ofBits .f32 4286578688#32 = (⊥ : EReal) := by
    show Ideal.ofBits .f32 0xFF800000#32 = ⊥
    simp [Ideal.ofBits, Ideal.ieee]
  simp only [eq_word]
  apply le_antisymm
  · rw [Finset.fold_max_le]
    refine ⟨by rw [hbot]; exact bot_le, fun x _ => ?_⟩
    by_cases h : x = b
    · subst h; simp only [if_true]; exact le_max_left _ _
    · simp only [h, if_false]; exact le_max_right _ _
  · refine max_le ?_ ?_
    · rw [Finset.le_fold_max]
      exact Or.inr ⟨b, Finset.mem_univ _, by simp only [if_true]; exact le_rfl⟩
    · obtain ⟨x, hx⟩ : ∃ x : Fin 12, x ≠ b := ⟨b + 1, by revert b; decide⟩
      rw [Finset.le_fold_max]
      exact Or.inr ⟨x, Finset.mem_univ _, by simp only [hx, if_false]; exact le_rfl⟩

/-- The widened tile at grid coordinates `i`: code times scale, the scale row that of the token's group. -/
def wid (i : grid0.Coords) (q : Vec Ideal S768x512 .fp8e4m3) (s : Vec Ideal S1x12x512 .f32) : Vec Ideal S768x512 .bf16 :=
  fun y => q y * max (s (ix3 (n0 := 1) (n1 := 12) (n2 := 512) 0
    ⟨(i 1).val % 2 * 6 + (y 0).val / 128, by have : (y 0).val < 768 := (y 0).isLt; omega⟩ (y 1))) 0

/-- A group's product, as the payloads' index-by-index reading leaves it, is the widened tile's at the group's row. -/
theorem wid_group (i : grid0.Coords) (q : Vec Ideal S768x512 .fp8e4m3) (s : Vec Ideal S1x12x512 .f32) (g : Fin 6)
    (r : Fin 128) (k : Fin 768) (hk : k.val = 128 * g.val + r.val) (l : Fin 512) (v : BitVec 32)
    (hv : v = Scalar.addi (Scalar.muli (Scalar.remsi (BitVec.ofNat 32 (i 1).val) 2#32) 6#32) (BitVec.ofNat 32 g.val)) :
    q (ix2 k l) * Finset.fold max (Ideal.ofBits .f32 4286578688#32)
      (fun x : Fin 12 => Scalar.select (IntOp.cmpi .eq (BitVec.ofNat 32 x.val) v) (s (ix3 0 x l)) (0 : EReal)) Finset.univ
      = wid i q s (ix2 k l) := by
  have hi : (i 1).val < 12 := (i 1).isLt
  have hb := base_word ⟨(i 1).val, hi⟩ g
  have hg := g.isLt
  have hr := r.isLt
  rw [hv, hb]
  have := pick (fun x => s (ix3 0 x l)) ⟨(i 1).val % 2 * 6 + g.val, by omega⟩
  simp only at this
  rw [this]
  unfold wid
  simp only [ix2_0, ix2_1]
  congr 4
  apply Fin.ext
  simp only
  omega

/-- SIX STORES READ BACK AS ONE TILE: the payloads of the six groups of 128 rows, when each is the tile `G` at its
    rows, make `G`. -/
theorem readBack (b : View sig .tc .vmem S768x512 .bf16) (w0 w1 w2 w3 w4 w5 : Vec Ideal S128x512 .bf16) (G : Vec Ideal S768x512 .bf16)
    (h : ∀ (r : Fin 128) (l : Fin 512) (k : Fin 768), (k.val = r.val → w0 (ix2 r l) = G (ix2 k l)) ∧ (k.val = 128 + r.val → w1 (ix2 r l) = G (ix2 k l))
      ∧ (k.val = 256 + r.val → w2 (ix2 r l) = G (ix2 k l)) ∧ (k.val = 384 + r.val → w3 (ix2 r l) = G (ix2 k l))
      ∧ (k.val = 512 + r.val → w4 (ix2 r l) = G (ix2 k l)) ∧ (k.val = 640 + r.val → w5 (ix2 r l) = G (ix2 k l))) :
    b.readCov
        [(⟨Rect.unit ![640, 0] ![128, 512] inb_S768x512_S128x512_640_0, w5⟩ : View.Piece (Elt Ideal) S768x512 .bf16),
          ⟨Rect.unit ![512, 0] ![128, 512] inb_S768x512_S128x512_512_0, w4⟩,
          ⟨Rect.unit ![384, 0] ![128, 512] inb_S768x512_S128x512_384_0, w3⟩,
          ⟨Rect.unit ![256, 0] ![128, 512] inb_S768x512_S128x512_256_0, w2⟩,
          ⟨Rect.unit ![128, 0] ![128, 512] inb_S768x512_S128x512_128_0, w1⟩,
          ⟨Rect.unit ![0, 0] ![128, 512] inb_S768x512_S128x512_0_0, w0⟩]
        (Rect.unit ![0, 0] ![768, 512] inb_S768x512_S768x512_0_0).toLoadRect = G := by
  rw [View.readCov_eq_canon_ld]
  · refine (View.ld_unit_lit' (S := S768x512) _ _ (by decide)).trans ?_
    funext y
    idx_vars y
    canon_tiles x h
    all_goals
      idx_vars x
      obtain rfl := Fin.ext h1
    · exact (h _ _ _).2.2.2.2.2 h0
    · exact (h _ _ _).2.2.2.2.1 h0
    · exact (h _ _ _).2.2.2.1 h0
    · exact (h _ _ _).2.2.1 h0
    · exact (h _ _ _).2.1 h0
    · exact (h _ _ _).1 h0
  · exact View.cover_of_tiledL _ ![128, 512] (by rfl)

/-- The widened tile of the first operand: the six groups the body stores, read back. -/
theorem wid_a (i : grid0.Coords) (b : View sig .tc .vmem S768x512 .bf16) (q : Vec Ideal S768x512 .fp8e4m3) (s : Vec Ideal S1x12x512 .f32) :
    b.readCov
        [(⟨Rect.unit ![640, 0] ![128, 512] inb_S768x512_S128x512_640_0, k0_pay14 (k0_pay13 (Scalar.muli (Scalar.remsi (BitVec.ofNat 32 (i 1).val) 2#32) 6#32) s) (View.ld q (Rect.unit ![640, 0] ![128, 512] inb_S768x512_S128x512_640_0))⟩ : View.Piece (Elt Ideal) S768x512 .bf16),
          ⟨Rect.unit ![512, 0] ![128, 512] inb_S768x512_S128x512_512_0, k0_pay12 (Scalar.muli (Scalar.remsi (BitVec.ofNat 32 (i 1).val) 2#32) 6#32) s (View.ld q (Rect.unit ![512, 0] ![128, 512] inb_S768x512_S128x512_512_0))⟩,
          ⟨Rect.unit ![384, 0] ![128, 512] inb_S768x512_S128x512_384_0, k0_pay11 (k0_pay10 (Scalar.muli (Scalar.remsi (BitVec.ofNat 32 (i 1).val) 2#32) 6#32) s) (View.ld q (Rect.unit ![384, 0] ![128, 512] inb_S768x512_S128x512_384_0))⟩,
          ⟨Rect.unit ![256, 0] ![128, 512] inb_S768x512_S128x512_256_0, k0_pay9 (Scalar.muli (Scalar.remsi (BitVec.ofNat 32 (i 1).val) 2#32) 6#32) s (View.ld q (Rect.unit ![256, 0] ![128, 512] inb_S768x512_S128x512_256_0))⟩,
          ⟨Rect.unit ![128, 0] ![128, 512] inb_S768x512_S128x512_128_0, k0_pay8 (k0_pay7 i s) (View.ld q (Rect.unit ![128, 0] ![128, 512] inb_S768x512_S128x512_128_0))⟩,
          ⟨Rect.unit ![0, 0] ![128, 512] inb_S768x512_S128x512_0_0, k0_pay6 i s (View.ld q (Rect.unit ![0, 0] ![128, 512] inb_S768x512_S128x512_0_0))⟩]
        (Rect.unit ![0, 0] ![768, 512] inb_S768x512_S768x512_0_0).toLoadRect = wid i q s := by
  refine readBack b _ _ _ _ _ _ _ fun r l k => ⟨fun hk => ?_, fun hk => ?_, fun hk => ?_, fun hk => ?_, fun hk => ?_, fun hk => ?_⟩
  all_goals pointwise [k0_pay6, k0_pay7, k0_pay8, k0_pay9, k0_pay10, k0_pay11, k0_pay12, k0_pay13, k0_pay14]
  · rw [← wid_group i q s 0 r k (by simpa using hk) l _ rfl]; exact congrArg (fun z : Fin 768 => q (ix2 z l) * _) (Fin.ext (by simp [hk]))
  · rw [← wid_group i q s 1 r k (by simpa using hk) l _ rfl]; exact congrArg (fun z : Fin 768 => q (ix2 z l) * _) (Fin.ext (by simp [hk]))
  · rw [← wid_group i q s 2 r k (by simpa using hk) l _ rfl]; exact congrArg (fun z : Fin 768 => q (ix2 z l) * _) (Fin.ext (by simp [hk]))
  · rw [← wid_group i q s 3 r k (by simpa using hk) l _ rfl]; exact congrArg (fun z : Fin 768 => q (ix2 z l) * _) (Fin.ext (by simp [hk]))
  · rw [← wid_group i q s 4 r k (by simpa using hk) l _ rfl]; exact congrArg (fun z : Fin 768 => q (ix2 z l) * _) (Fin.ext (by simp [hk]))
  · rw [← wid_group i q s 5 r k (by simpa using hk) l _ rfl]; exact congrArg (fun z : Fin 768 => q (ix2 z l) * _) (Fin.ext (by simp [hk]))

/-- The same of the second operand. -/
theorem wid_b (i : grid0.Coords) (b : View sig .tc .vmem S768x512 .bf16) (q : Vec Ideal S768x512 .fp8e4m3) (s : Vec Ideal S1x12x512 .f32) :
    b.readCov
        [(⟨Rect.unit ![640, 0] ![128, 512] inb_S768x512_S128x512_640_0, k0_pay23 (k0_pay22 (Scalar.muli (Scalar.remsi (BitVec.ofNat 32 (i 1).val) 2#32) 6#32) s) (View.ld q (Rect.unit ![640, 0] ![128, 512] inb_S768x512_S128x512_640_0))⟩ : View.Piece (Elt Ideal) S768x512 .bf16),
          ⟨Rect.unit ![512, 0] ![128, 512] inb_S768x512_S128x512_512_0, k0_pay21 (Scalar.muli (Scalar.remsi (BitVec.ofNat 32 (i 1).val) 2#32) 6#32) s (View.ld q (Rect.unit ![512, 0] ![128, 512] inb_S768x512_S128x512_512_0))⟩,
          ⟨Rect.unit ![384, 0] ![128, 512] inb_S768x512_S128x512_384_0, k0_pay20 (k0_pay19 (Scalar.muli (Scalar.remsi (BitVec.ofNat 32 (i 1).val) 2#32) 6#32) s) (View.ld q (Rect.unit ![384, 0] ![128, 512] inb_S768x512_S128x512_384_0))⟩,
          ⟨Rect.unit ![256, 0] ![128, 512] inb_S768x512_S128x512_256_0, k0_pay18 (Scalar.muli (Scalar.remsi (BitVec.ofNat 32 (i 1).val) 2#32) 6#32) s (View.ld q (Rect.unit ![256, 0] ![128, 512] inb_S768x512_S128x512_256_0))⟩,
          ⟨Rect.unit ![128, 0] ![128, 512] inb_S768x512_S128x512_128_0, k0_pay17 (k0_pay16 (Scalar.muli (Scalar.remsi (BitVec.ofNat 32 (i 1).val) 2#32) 6#32) s) (View.ld q (Rect.unit ![128, 0] ![128, 512] inb_S768x512_S128x512_128_0))⟩,
          ⟨Rect.unit ![0, 0] ![128, 512] inb_S768x512_S128x512_0_0, k0_pay15 (Scalar.muli (Scalar.remsi (BitVec.ofNat 32 (i 1).val) 2#32) 6#32) s (View.ld q (Rect.unit ![0, 0] ![128, 512] inb_S768x512_S128x512_0_0))⟩]
        (Rect.unit ![0, 0] ![768, 512] inb_S768x512_S768x512_0_0).toLoadRect = wid i q s := by
  refine readBack b _ _ _ _ _ _ _ fun r l k => ⟨fun hk => ?_, fun hk => ?_, fun hk => ?_, fun hk => ?_, fun hk => ?_, fun hk => ?_⟩
  all_goals pointwise [k0_pay15, k0_pay16, k0_pay17, k0_pay18, k0_pay19, k0_pay20, k0_pay21, k0_pay22, k0_pay23]
  · rw [← wid_group i q s 0 r k (by simpa using hk) l _ rfl]; exact congrArg (fun z : Fin 768 => q (ix2 z l) * _) (Fin.ext (by simp [hk]))
  · rw [← wid_group i q s 1 r k (by simpa using hk) l _ rfl]; exact congrArg (fun z : Fin 768 => q (ix2 z l) * _) (Fin.ext (by simp [hk]))
  · rw [← wid_group i q s 2 r k (by simpa using hk) l _ rfl]; exact congrArg (fun z : Fin 768 => q (ix2 z l) * _) (Fin.ext (by simp [hk]))
  · rw [← wid_group i q s 3 r k (by simpa using hk) l _ rfl]; exact congrArg (fun z : Fin 768 => q (ix2 z l) * _) (Fin.ext (by simp [hk]))
  · rw [← wid_group i q s 4 r k (by simpa using hk) l _ rfl]; exact congrArg (fun z : Fin 768 => q (ix2 z l) * _) (Fin.ext (by simp [hk]))
  · rw [← wid_group i q s 5 r k (by simpa using hk) l _ rfl]; exact congrArg (fun z : Fin 768 => q (ix2 z l) * _) (Fin.ext (by simp [hk]))

/-- The same of the third operand. -/
theorem wid_h (i : grid0.Coords) (b : View sig .tc .vmem S768x512 .bf16) (q : Vec Ideal S768x512 .fp8e4m3) (s : Vec Ideal S1x12x512 .f32) :
    b.readCov
        [(⟨Rect.unit ![640, 0] ![128, 512] inb_S768x512_S128x512_640_0, k0_pay32 (k0_pay31 (Scalar.muli (Scalar.remsi (BitVec.ofNat 32 (i 1).val) 2#32) 6#32) s) (View.ld q (Rect.unit ![640, 0] ![128, 512] inb_S768x512_S128x512_640_0))⟩ : View.Piece (Elt Ideal) S768x512 .bf16),
          ⟨Rect.unit ![512, 0] ![128, 512] inb_S768x512_S128x512_512_0, k0_pay30 (Scalar.muli (Scalar.remsi (BitVec.ofNat 32 (i 1).val) 2#32) 6#32) s (View.ld q (Rect.unit ![512, 0] ![128, 512] inb_S768x512_S128x512_512_0))⟩,
          ⟨Rect.unit ![384, 0] ![128, 512] inb_S768x512_S128x512_384_0, k0_pay29 (k0_pay28 (Scalar.muli (Scalar.remsi (BitVec.ofNat 32 (i 1).val) 2#32) 6#32) s) (View.ld q (Rect.unit ![384, 0] ![128, 512] inb_S768x512_S128x512_384_0))⟩,
          ⟨Rect.unit ![256, 0] ![128, 512] inb_S768x512_S128x512_256_0, k0_pay27 (Scalar.muli (Scalar.remsi (BitVec.ofNat 32 (i 1).val) 2#32) 6#32) s (View.ld q (Rect.unit ![256, 0] ![128, 512] inb_S768x512_S128x512_256_0))⟩,
          ⟨Rect.unit ![128, 0] ![128, 512] inb_S768x512_S128x512_128_0, k0_pay26 (k0_pay25 (Scalar.muli (Scalar.remsi (BitVec.ofNat 32 (i 1).val) 2#32) 6#32) s) (View.ld q (Rect.unit ![128, 0] ![128, 512] inb_S768x512_S128x512_128_0))⟩,
          ⟨Rect.unit ![0, 0] ![128, 512] inb_S768x512_S128x512_0_0, k0_pay24 (Scalar.muli (Scalar.remsi (BitVec.ofNat 32 (i 1).val) 2#32) 6#32) s (View.ld q (Rect.unit ![0, 0] ![128, 512] inb_S768x512_S128x512_0_0))⟩]
        (Rect.unit ![0, 0] ![768, 512] inb_S768x512_S768x512_0_0).toLoadRect = wid i q s := by
  refine readBack b _ _ _ _ _ _ _ fun r l k => ⟨fun hk => ?_, fun hk => ?_, fun hk => ?_, fun hk => ?_, fun hk => ?_, fun hk => ?_⟩
  all_goals pointwise [k0_pay24, k0_pay25, k0_pay26, k0_pay27, k0_pay28, k0_pay29, k0_pay30, k0_pay31, k0_pay32]
  · rw [← wid_group i q s 0 r k (by simpa using hk) l _ rfl]; exact congrArg (fun z : Fin 768 => q (ix2 z l) * _) (Fin.ext (by simp [hk]))
  · rw [← wid_group i q s 1 r k (by simpa using hk) l _ rfl]; exact congrArg (fun z : Fin 768 => q (ix2 z l) * _) (Fin.ext (by simp [hk]))
  · rw [← wid_group i q s 2 r k (by simpa using hk) l _ rfl]; exact congrArg (fun z : Fin 768 => q (ix2 z l) * _) (Fin.ext (by simp [hk]))
  · rw [← wid_group i q s 3 r k (by simpa using hk) l _ rfl]; exact congrArg (fun z : Fin 768 => q (ix2 z l) * _) (Fin.ext (by simp [hk]))
  · rw [← wid_group i q s 4 r k (by simpa using hk) l _ rfl]; exact congrArg (fun z : Fin 768 => q (ix2 z l) * _) (Fin.ext (by simp [hk]))
  · rw [← wid_group i q s 5 r k (by simpa using hk) l _ rfl]; exact congrArg (fun z : Fin 768 => q (ix2 z l) * _) (Fin.ext (by simp [hk]))

end Cert.KernelIdeal.Val
end
-- ==== Proof.Steps.lean ====
/-
  WHAT ONE GRID POINT LEAVES: each of the three running sums (two gradient blocks and the carried transposed one) is
  reset to zero at the first token tile of a column block and then takes one product of 768 tokens at every point; the
  third gradient's block is the transpose of the carried sum at the last token tile.
-/
module

public import proofs.«01_k».proof.Proof.Widen

@[expose] public section

set_option maxRecDepth 16384

noncomputable section

open Idealize.ShloMosaic Idealize.ShloMosaic.TcCoe Idealize.SL.Sem Idealize.ShloMosaic.Tactic

namespace Cert.KernelIdeal.Val

open Cert.KernelIdeal Cert.KernelIdeal.Gen

variable (m : (ℓ : Loc nD τ sig) → Buf (Elt Ideal) ℓ)

/-- One product of 768 tokens, element by element of a block. -/
def prod (x : Vec Ideal S2048x768 .bf16) (w : Vec Ideal S768x512 .bf16) : Vec Ideal S2048x512 .f32 :=
  fun y => ∑ k : Fin 768, x (ix2 (y 0) k) * w (ix2 k (y 1))

/-- The first gradient's step at an element: what was there plus the product. -/
theorem pay33_apply (a : Vec Ideal S2048x512 .f32) (x : Vec Ideal S2048x768 .bf16) (w : Vec Ideal S768x512 .bf16)
    (y : S2048x512.Idx) : k0_pay33 a x w y = a y + prod x w y := by
  idx_vars y
  unfold prod
  pointwise [k0_pay33]

/-- The second gradient's step at an element. -/
theorem pay34_apply (a : Vec Ideal S2048x512 .f32) (x : Vec Ideal S2048x768 .bf16) (w : Vec Ideal S768x512 .bf16)
    (y : S2048x512.Idx) : k0_pay34 a x w y = a y + prod x w y := by
  idx_vars y
  unfold prod
  pointwise [k0_pay34]

/-- The carried sum's step at an element. -/
theorem pay35_apply (a : Vec Ideal S2048x512 .f32) (x : Vec Ideal S2048x768 .bf16) (w : Vec Ideal S768x512 .bf16)
    (y : S2048x512.Idx) : k0_pay1 (k0_pay35 a x w) y = a y + prod x w y := by
  idx_vars y
  unfold prod
  pointwise [k0_pay35, k0_pay1]

/-- The reset block is zero (first gradient). -/
theorem zero33 (y : S2048x512.Idx) : (k0_pay3 : FVec Ideal S2048x512 .f32) y = 0 := by
  idx_vars y
  pointwise [k0_pay3]

/-- The reset block is zero (second gradient). -/
theorem zero34 (y : S2048x512.Idx) : (k0_pay4 : FVec Ideal S2048x512 .f32) y = 0 := by
  idx_vars y
  pointwise [k0_pay4]

/-- The reset block is zero (carried sum). -/
theorem zero35 (y : S2048x512.Idx) : (k0_pay5 : FVec Ideal S2048x512 .f32) y = 0 := by
  idx_vars y
  pointwise [k0_pay5]

/-- The transposed store at an element. -/
theorem pay2_apply (x : FVec Ideal S2048x512 .f32) (y : S512x2048.Idx) : k0_pay2 x y = x (ix2 (y 1) (y 0)) := by
  idx_vars y
  pointwise [k0_pay2]

/-- The first gradient's block after a point that starts a column block: zero plus one product. -/
theorem first_A (c : Dev nD) (t : Fin cfg0.N) (h0 : t.val % 12 = 0) (y : S2048x512.Idx) :
    (outsAt0 m c t.val t.isLt).1 y = 0 + prod (iblk m c 0 t) (wid (grid0.coords t) (iblk m c 2 t) (iblk m c 3 t)) y := by
  rw [outsAt0_A m c t h0 (by omega)]
  frame_open
  simp (disch := decide) only [↓ View.readCov_skip, ↓ View.readCov_cons_toLoadRect, ↓ View.readCov_fill]
  frame_out
  rw [wid_a, pay33_apply, zero33]

/-- The first gradient's block after any other point: what the point before left, plus one product. -/
theorem first_S (c : Dev nD) (t : Fin cfg0.N) (h0 : ¬t.val % 12 = 0) (y : S2048x512.Idx) :
    (outsAt0 m c t.val t.isLt).1 y = (outsAt0 m c (t.val - 1) (Nat.lt_of_le_of_lt (Nat.sub_le _ _) t.isLt)).1 y
      + prod (iblk m c 0 t) (wid (grid0.coords t) (iblk m c 2 t) (iblk m c 3 t)) y := by
  by_cases h1 : t.val % 12 = 11
  · rw [outsAt0_C m c t h0 h1]
    frame_open
    simp (disch := decide) only [↓ View.readCov_skip, ↓ View.readCov_cons_toLoadRect, ↓ View.readCov_fill]
    frame_out
    rw [wid_a, pay33_apply]
  · rw [outsAt0_B m c t h0 h1]
    frame_open
    simp (disch := decide) only [↓ View.readCov_skip, ↓ View.readCov_cons_toLoadRect, ↓ View.readCov_fill]
    frame_out
    rw [wid_a, pay33_apply]

/-- The second gradient's block after a point that starts a column block: zero plus one product. -/
theorem second_A (c : Dev nD) (t : Fin cfg0.N) (h0 : t.val % 12 = 0) (y : S2048x512.Idx) :
    (outsAt0 m c t.val t.isLt).2.1 y = 0 + prod (iblk m c 0 t) (wid (grid0.coords t) (iblk m c 4 t) (iblk m c 5 t)) y := by
  rw [outsAt0_A m c t h0 (by omega)]
  frame_open
  simp (disch := decide) only [↓ View.readCov_skip, ↓ View.readCov_cons_toLoadRect, ↓ View.readCov_fill]
  frame_out
  rw [wid_b, pay34_apply, zero34]

/-- The second gradient's block after any other point: what the point before left, plus one product. -/
theorem second_S (c : Dev nD) (t : Fin cfg0.N) (h0 : ¬t.val % 12 = 0) (y : S2048x512.Idx) :
    (outsAt0 m c t.val t.isLt).2.1 y = (outsAt0 m c (t.val - 1) (Nat.lt_of_le_of_lt (Nat.sub_le _ _) t.isLt)).2.1 y
      + prod (iblk m c 0 t) (wid (grid0.coords t) (iblk m c 4 t) (iblk m c 5 t)) y := by
  by_cases h1 : t.val % 12 = 11
  · rw [outsAt0_C m c t h0 h1]
    frame_open
    simp (disch := decide) only [↓ View.readCov_skip, ↓ View.readCov_cons_toLoadRect, ↓ View.readCov_fill]
    frame_out
    rw [wid_b, pay34_apply]
  · rw [outsAt0_B m c t h0 h1]
    frame_open
    simp (disch := decide) only [↓ View.readCov_skip, ↓ View.readCov_cons_toLoadRect, ↓ View.readCov_fill]
    frame_out
    rw [wid_b, pay34_apply]

/-- The carried sum after a point that starts a column block: zero plus one product. -/
theorem third_A (c : Dev nD) (t : Fin cfg0.N) (h0 : t.val % 12 = 0) (y : S2048x512.Idx) :
    (outsAt0 m c t.val t.isLt).2.2.2 y = 0 + prod (iblk m c 1 t) (wid (grid0.coords t) (iblk m c 6 t) (iblk m c 7 t)) y := by
  rw [outsAt0_A m c t h0 (by omega)]
  frame_open
  simp (disch := decide) only [↓ View.readCov_skip, ↓ View.readCov_cons_toLoadRect, ↓ View.readCov_fill]
  frame_out
  rw [wid_h, pay35_apply, zero35]

/-- The carried sum after any other point: what the point before left, plus one product. -/
theorem third_S (c : Dev nD) (t : Fin cfg0.N) (h0 : ¬t.val % 12 = 0) (y : S2048x512.Idx) :
    (outsAt0 m c t.val t.isLt).2.2.2 y = (outsAt0 m c (t.val - 1) (Nat.lt_of_le_of_lt (Nat.sub_le _ _) t.isLt)).2.2.2 y
      + prod (iblk m c 1 t) (wid (grid0.coords t) (iblk m c 6 t) (iblk m c 7 t)) y := by
  by_cases h1 : t.val % 12 = 11
  · rw [outsAt0_C m c t h0 h1]
    frame_open
    simp (disch := decide) only [↓ View.readCov_skip, ↓ View.readCov_cons_toLoadRect, ↓ View.readCov_fill]
    frame_out
    rw [wid_h, pay35_apply]
    simp only [read_unread_whole]
  · rw [outsAt0_B m c t h0 h1]
    frame_open
    simp (disch := decide) only [↓ View.readCov_skip, ↓ View.readCov_cons_toLoadRect, ↓ View.readCov_fill]
    frame_out
    rw [wid_h, pay35_apply]
    simp only [read_unread_whole]

/-- The third gradient's block at the last token tile: the carried sum of that point, transposed. -/
theorem third_out (c : Dev nD) (t : Fin cfg0.N) (h1 : t.val % 12 = 11) (y : S512x2048.Idx) :
    (outsAt0 m c t.val t.isLt).2.2.1 y = (outsAt0 m c t.val t.isLt).2.2.2 (ix2 (y 1) (y 0)) := by
  rw [outsAt0_C m c t (by omega) h1]
  frame_open
  simp (disch := decide) only [↓ View.readCov_skip, ↓ View.readCov_cons_toLoadRect, ↓ View.readCov_fill]
  frame_out
  exact pay2_apply _ y

end Cert.KernelIdeal.Val
end
-- ==== Proof.Fold.lean ====
/-
  WHAT THE WEIGHT-GRADIENT ARRAYS END HOLDING: at column `l`, the sum over the twelve token tiles of a tile's product,
  which is one sum over all 9216 tokens of an activation times a code times its scale's maximum with zero.
-/
module

public import proofs.«01_k».proof.Proof.Steps

@[expose] public section

set_option maxRecDepth 16384

noncomputable section

open Idealize.ShloMosaic Idealize.ShloMosaic.TcCoe Idealize.SL.Sem Idealize.ShloMosaic.Tactic
open Idealize.ShloMosaic.Pipeline (Dat)

namespace Cert.KernelIdeal.Val

open Cert.KernelIdeal Cert.KernelIdeal.Gen

variable (m : (ℓ : Loc nD τ sig) → Buf (Elt Ideal) ℓ)

/-- Token `k`'s activation in row `r`, times its code in column `l`, times the maximum with zero of its group's scale. -/
def term (x : Vec Ideal S2048x9216 .bf16) (q : Vec Ideal S9216x5632 .fp8e4m3) (s : Vec Ideal S6x12x5632 .f32)
    (r : Fin 2048) (l : Fin 5632) (k : Fin 9216) : EReal :=
  x (ix2 r k) * (q (ix2 k l) * max (s (ix3 (n0 := 6) (n1 := 12) (n2 := 5632) ⟨k.val / 1536, by omega⟩ ⟨k.val / 128 % 12, by omega⟩ l)) 0)

/-- The block indices of the eight inputs at a point: the token tile, the column block, and the pair of token tiles
    that share a block of twelve scale rows. -/
theorem idx_in : ∀ t : Fin cfg0.N,
    win0_0.index t = ![0, t.val % 12] ∧ win0_1.index t = ![0, t.val % 12]
    ∧ win0_2.index t = ![t.val % 12, t.val / 12] ∧ win0_3.index t = ![t.val % 12 / 2, 0, t.val / 12]
    ∧ win0_4.index t = ![t.val % 12, t.val / 12] ∧ win0_5.index t = ![t.val % 12 / 2, 0, t.val / 12]
    ∧ win0_6.index t = ![t.val % 12, t.val / 12] ∧ win0_7.index t = ![t.val % 12 / 2, 0, t.val / 12]
    ∧ ((grid0.coords t) 1).val = t.val % 12 :=
  (by decide +kernel : ∀ t : Fin grid0.N, _)

/-- Window 0's block is its array at the point's token tile. -/
theorem blk0 (c : Dev nD) (t : Fin cfg0.N) (r : Fin 2048) (k : Fin 768) (K : Fin 9216) (hK : K.val = t.val % 12 * 768 + k.val) :
    (iblk m c 0 t : Vec Ideal S2048x768 .bf16) (ix2 r k) = (m ((c : Thread nD τ).loc main_arg0) : Vec Ideal S2048x9216 .bf16) (ix2 r K) := by
  blk_ext [iblk, V, (idx_in t).1]

/-- Window 1's block is its array at the point's token tile. -/
theorem blk1 (c : Dev nD) (t : Fin cfg0.N) (r : Fin 2048) (k : Fin 768) (K : Fin 9216) (hK : K.val = t.val % 12 * 768 + k.val) :
    (iblk m c 1 t : Vec Ideal S2048x768 .bf16) (ix2 r k) = (m ((c : Thread nD τ).loc main_arg1) : Vec Ideal S2048x9216 .bf16) (ix2 r K) := by
  blk_ext [iblk, V, (idx_in t).2.1]

/-- Window 2's block is its array at the point's token tile and column block. -/
theorem blk2 (c : Dev nD) (t : Fin cfg0.N) (k : Fin 768) (l : Fin 512) (K : Fin 9216) (L : Fin 5632)
    (hK : K.val = t.val % 12 * 768 + k.val) (hL : L.val = t.val / 12 * 512 + l.val) :
    (iblk m c 2 t : Vec Ideal S768x512 .fp8e4m3) (ix2 k l) = (m ((c : Thread nD τ).loc main_arg2) : Vec Ideal S9216x5632 .fp8e4m3) (ix2 K L) := by
  blk_ext [iblk, V, (idx_in t).2.2.1]

/-- Window 3's block is its array at the point's pair of token tiles and its column block. -/
theorem blk3 (c : Dev nD) (t : Fin cfg0.N) (g : Fin 12) (l : Fin 512) (b : Fin 6) (L : Fin 5632)
    (hb : b.val = t.val % 12 / 2) (hL : L.val = t.val / 12 * 512 + l.val) :
    (iblk m c 3 t : Vec Ideal S1x12x512 .f32) (ix3 0 g l) = (m ((c : Thread nD τ).loc main_arg3) : Vec Ideal S6x12x5632 .f32) (ix3 b g L) := by
  blk_ext [iblk, V, (idx_in t).2.2.2.1]

/-- Window 4's block is its array at the point's token tile and column block. -/
theorem blk4 (c : Dev nD) (t : Fin cfg0.N) (k : Fin 768) (l : Fin 512) (K : Fin 9216) (L : Fin 5632)
    (hK : K.val = t.val % 12 * 768 + k.val) (hL : L.val = t.val / 12 * 512 + l.val) :
    (iblk m c 4 t : Vec Ideal S768x512 .fp8e4m3) (ix2 k l) = (m ((c : Thread nD τ).loc main_arg4) : Vec Ideal S9216x5632 .fp8e4m3) (ix2 K L) := by
  blk_ext [iblk, V, (idx_in t).2.2.2.2.1]

/-- Window 5's block is its array at the point's pair of token tiles and its column block. -/
theorem blk5 (c : Dev nD) (t : Fin cfg0.N) (g : Fin 12) (l : Fin 512) (b : Fin 6) (L : Fin 5632)
    (hb : b.val = t.val % 12 / 2) (hL : L.val = t.val / 12 * 512 + l.val) :
    (iblk m c 5 t : Vec Ideal S1x12x512 .f32) (ix3 0 g l) = (m ((c : Thread nD τ).loc main_arg5) : Vec Ideal S6x12x5632 .f32) (ix3 b g L) := by
  blk_ext [iblk, V, (idx_in t).2.2.2.2.2.1]

/-- Window 6's block is its array at the point's token tile and column block. -/
theorem blk6 (c : Dev nD) (t : Fin cfg0.N) (k : Fin 768) (l : Fin 512) (K : Fin 9216) (L : Fin 5632)
    (hK : K.val = t.val % 12 * 768 + k.val) (hL : L.val = t.val / 12 * 512 + l.val) :
    (iblk m c 6 t : Vec Ideal S768x512 .fp8e4m3) (ix2 k l) = (m ((c : Thread nD τ).loc main_arg6) : Vec Ideal S9216x5632 .fp8e4m3) (ix2 K L) := by
  blk_ext [iblk, V, (idx_in t).2.2.2.2.2.2.1]

/-- Window 7's block is its array at the point's pair of token tiles and its column block. -/
theorem blk7 (c : Dev nD) (t : Fin cfg0.N) (g : Fin 12) (l : Fin 512) (b : Fin 6) (L : Fin 5632)
    (hb : b.val = t.val % 12 / 2) (hL : L.val = t.val / 12 * 512 + l.val) :
    (iblk m c 7 t : Vec Ideal S1x12x512 .f32) (ix3 0 g l) = (m ((c : Thread nD τ).loc main_arg7) : Vec Ideal S6x12x5632 .f32) (ix3 b g L) := by
  blk_ext [iblk, V, (idx_in t).2.2.2.2.2.2.2.1]

/-- A point's product for the first array is the sum of the array's terms over the point's tile of tokens. -/
theorem first_point (c : Dev nD) (t : Fin cfg0.N) (r : Fin 2048) (l : Fin 512) (L : Fin 5632) (hL : L.val = t.val / 12 * 512 + l.val) :
    prod (iblk m c 0 t) (wid (grid0.coords t) (iblk m c 2 t) (iblk m c 3 t)) (ix2 r l)
      = ∑ k : Fin 768, term (m ((c : Thread nD τ).loc main_arg0) : Vec Ideal S2048x9216 .bf16) (m ((c : Thread nD τ).loc main_arg2) : Vec Ideal S9216x5632 .fp8e4m3) (m ((c : Thread nD τ).loc main_arg3) : Vec Ideal S6x12x5632 .f32) r L
          ⟨t.val % 12 * 768 + k.val, by omega⟩ := by
  refine Finset.sum_congr rfl fun k _ => ?_
  have hk := k.isLt
  have hc := (idx_in t).2.2.2.2.2.2.2.2
  refine congrArg₂ (· * ·) (blk0 m c t r k ⟨t.val % 12 * 768 + k.val, by omega⟩ rfl) ?_
  refine congrArg₂ (· * ·) (blk2 m c t k l ⟨t.val % 12 * 768 + k.val, by omega⟩ L rfl hL) (congrArg (max · 0) ?_)
  refine (blk3 m c t _ l ⟨(t.val % 12 * 768 + k.val) / 1536, by omega⟩ L (by show _ / 1536 = _; omega) hL).trans ?_
  refine congrArg (fun g : Fin 12 => (m ((c : Thread nD τ).loc main_arg3) : Vec Ideal S6x12x5632 .f32) (ix3 _ g L)) (Fin.ext ?_)
  show ((grid0.coords t) 1).val % 2 * 6 + k.val / 128 = (t.val % 12 * 768 + k.val) / 128 % 12
  rw [hc]; omega

/-- A point's product for the second array is the sum of the array's terms over the point's tile of tokens. -/
theorem second_point (c : Dev nD) (t : Fin cfg0.N) (r : Fin 2048) (l : Fin 512) (L : Fin 5632) (hL : L.val = t.val / 12 * 512 + l.val) :
    prod (iblk m c 0 t) (wid (grid0.coords t) (iblk m c 4 t) (iblk m c 5 t)) (ix2 r l)
      = ∑ k : Fin 768, term (m ((c : Thread nD τ).loc main_arg0) : Vec Ideal S2048x9216 .bf16) (m ((c : Thread nD τ).loc main_arg4) : Vec Ideal S9216x5632 .fp8e4m3) (m ((c : Thread nD τ).loc main_arg5) : Vec Ideal S6x12x5632 .f32) r L
          ⟨t.val % 12 * 768 + k.val, by omega⟩ := by
  refine Finset.sum_congr rfl fun k _ => ?_
  have hk := k.isLt
  have hc := (idx_in t).2.2.2.2.2.2.2.2
  refine congrArg₂ (· * ·) (blk0 m c t r k ⟨t.val % 12 * 768 + k.val, by omega⟩ rfl) ?_
  refine congrArg₂ (· * ·) (blk4 m c t k l ⟨t.val % 12 * 768 + k.val, by omega⟩ L rfl hL) (congrArg (max · 0) ?_)
  refine (blk5 m c t _ l ⟨(t.val % 12 * 768 + k.val) / 1536, by omega⟩ L (by show _ / 1536 = _; omega) hL).trans ?_
  refine congrArg (fun g : Fin 12 => (m ((c : Thread nD τ).loc main_arg5) : Vec Ideal S6x12x5632 .f32) (ix3 _ g L)) (Fin.ext ?_)
  show ((grid0.coords t) 1).val % 2 * 6 + k.val / 128 = (t.val % 12 * 768 + k.val) / 128 % 12
  rw [hc]; omega

/-- A point's product for the third array is the sum of the array's terms over the point's tile of tokens. -/
theorem third_point (c : Dev nD) (t : Fin cfg0.N) (r : Fin 2048) (l : Fin 512) (L : Fin 5632) (hL : L.val = t.val / 12 * 512 + l.val) :
    prod (iblk m c 1 t) (wid (grid0.coords t) (iblk m c 6 t) (iblk m c 7 t)) (ix2 r l)
      = ∑ k : Fin 768, term (m ((c : Thread nD τ).loc main_arg1) : Vec Ideal S2048x9216 .bf16) (m ((c : Thread nD τ).loc main_arg6) : Vec Ideal S9216x5632 .fp8e4m3) (m ((c : Thread nD τ).loc main_arg7) : Vec Ideal S6x12x5632 .f32) r L
          ⟨t.val % 12 * 768 + k.val, by omega⟩ := by
  refine Finset.sum_congr rfl fun k _ => ?_
  have hk := k.isLt
  have hc := (idx_in t).2.2.2.2.2.2.2.2
  refine congrArg₂ (· * ·) (blk1 m c t r k ⟨t.val % 12 * 768 + k.val, by omega⟩ rfl) ?_
  refine congrArg₂ (· * ·) (blk6 m c t k l ⟨t.val % 12 * 768 + k.val, by omega⟩ L rfl hL) (congrArg (max · 0) ?_)
  refine (blk7 m c t _ l ⟨(t.val % 12 * 768 + k.val) / 1536, by omega⟩ L (by show _ / 1536 = _; omega) hL).trans ?_
  refine congrArg (fun g : Fin 12 => (m ((c : Thread nD τ).loc main_arg7) : Vec Ideal S6x12x5632 .f32) (ix3 _ g L)) (Fin.ext ?_)
  show ((grid0.coords t) 1).val % 2 * 6 + k.val / 128 = (t.val % 12 * 768 + k.val) / 128 % 12
  rw [hc]; omega

/-- After a column block's last token tile the first accumulator holds the sum over all tokens. -/
theorem first_total (c : Dev nD) (t : Fin cfg0.N) (hr : t.val % 12 = 12 - 1) (r : Fin 2048) (l : Fin 512) (L : Fin 5632) (hL : L.val = t.val / 12 * 512 + l.val) :
    (outsAt0 m c t.val t.isLt).1 (ix2 r l)
      = ∑ k : Fin 9216, term (m ((c : Thread nD τ).loc main_arg0) : Vec Ideal S2048x9216 .bf16) (m ((c : Thread nD τ).loc main_arg2) : Vec Ideal S9216x5632 .fp8e4m3) (m ((c : Thread nD τ).loc main_arg3) : Vec Ideal S6x12x5632 .f32) r L k := by
  refine (Pipeline.eq_sum_fin_of_reset_step_of_flush (fun n h => (outsAt0 m c n h).1 (ix2 r l)) 12 0 _
    (fun t h => first_A m c t h (ix2 r l)) (fun t h => first_S m c t h (ix2 r l)) t hr).trans ?_
  rw [zero_add]
  refine Eq.trans (Finset.sum_congr rfl fun s _ => ?_) (Fin.sum_mul_add_fin 12 768 _)
  have hs : (12 * (t.val / 12) + s.val) % 12 = s.val := by omega
  have hd : (12 * (t.val / 12) + s.val) / 12 = t.val / 12 := by omega
  refine (first_point m c _ r l L (by simp only [hd]; exact hL)).trans (Finset.sum_congr rfl fun k _ => ?_)
  simp only [hs]

/-- After a column block's last token tile the second accumulator holds the sum over all tokens. -/
theorem second_total (c : Dev nD) (t : Fin cfg0.N) (hr : t.val % 12 = 12 - 1) (r : Fin 2048) (l : Fin 512) (L : Fin 5632) (hL : L.val = t.val / 12 * 512 + l.val) :
    (outsAt0 m c t.val t.isLt).2.1 (ix2 r l)
      = ∑ k : Fin 9216, term (m ((c : Thread nD τ).loc main_arg0) : Vec Ideal S2048x9216 .bf16) (m ((c : Thread nD τ).loc main_arg4) : Vec Ideal S9216x5632 .fp8e4m3) (m ((c : Thread nD τ).loc main_arg5) : Vec Ideal S6x12x5632 .f32) r L k := by
  refine (Pipeline.eq_sum_fin_of_reset_step_of_flush (fun n h => (outsAt0 m c n h).2.1 (ix2 r l)) 12 0 _
    (fun t h => second_A m c t h (ix2 r l)) (fun t h => second_S m c t h (ix2 r l)) t hr).trans ?_
  rw [zero_add]
  refine Eq.trans (Finset.sum_congr rfl fun s _ => ?_) (Fin.sum_mul_add_fin 12 768 _)
  have hs : (12 * (t.val / 12) + s.val) % 12 = s.val := by omega
  have hd : (12 * (t.val / 12) + s.val) / 12 = t.val / 12 := by omega
  refine (second_point m c _ r l L (by simp only [hd]; exact hL)).trans (Finset.sum_congr rfl fun k _ => ?_)
  simp only [hs]

/-- After a column block's last token tile the third accumulator holds the sum over all tokens. -/
theorem third_total (c : Dev nD) (t : Fin cfg0.N) (hr : t.val % 12 = 12 - 1) (r : Fin 2048) (l : Fin 512) (L : Fin 5632) (hL : L.val = t.val / 12 * 512 + l.val) :
    (outsAt0 m c t.val t.isLt).2.2.2 (ix2 r l)
      = ∑ k : Fin 9216, term (m ((c : Thread nD τ).loc main_arg1) : Vec Ideal S2048x9216 .bf16) (m ((c : Thread nD τ).loc main_arg6) : Vec Ideal S9216x5632 .fp8e4m3) (m ((c : Thread nD τ).loc main_arg7) : Vec Ideal S6x12x5632 .f32) r L k := by
  refine (Pipeline.eq_sum_fin_of_reset_step_of_flush (fun n h => (outsAt0 m c n h).2.2.2 (ix2 r l)) 12 0 _
    (fun t h => third_A m c t h (ix2 r l)) (fun t h => third_S m c t h (ix2 r l)) t hr).trans ?_
  rw [zero_add]
  refine Eq.trans (Finset.sum_congr rfl fun s _ => ?_) (Fin.sum_mul_add_fin 12 768 _)
  have hs : (12 * (t.val / 12) + s.val) % 12 = s.val := by omega
  have hd : (12 * (t.val / 12) + s.val) / 12 = t.val / 12 := by omega
  refine (third_point m c _ r l L (by simp only [hd]; exact hL)).trans (Finset.sum_congr rfl fun k _ => ?_)
  simp only [hs]

end Cert.KernelIdeal.Val
end
-- ==== Proof.Arrays.lean ====
/-
  THE THREE RESULT ARRAYS OF THE KERNEL, at an index: each is the sum over all tokens of its terms.
-/
module

public import proofs.«01_k».proof.Proof.Fold

@[expose] public section

set_option maxRecDepth 16384

noncomputable section

open Idealize.ShloMosaic Idealize.ShloMosaic.TcCoe Idealize.SL.Sem Idealize.ShloMosaic.Tactic
open Idealize.ShloMosaic.Pipeline (Dat)

namespace Cert.KernelIdeal.Val

open Cert.KernelIdeal Cert.KernelIdeal.Gen

variable (m : (ℓ : Loc nD τ sig) → Buf (Elt Ideal) ℓ)

/-- The first result array: the product of the first activation with the first widened gradient codes. -/
theorem array8 (c : Dev nD) (r : Fin 2048) (L : Fin 5632) :
    (Value.G8 m c : Vec Ideal S2048x5632 .f32) (ix2 r L)
      = ∑ k : Fin 9216, term (m ((c : Thread nD τ).loc main_arg0) : Vec Ideal S2048x9216 .bf16)
          (m ((c : Thread nD τ).loc main_arg2) : Vec Ideal S9216x5632 .fp8e4m3)
          (m ((c : Thread nD τ).loc main_arg3) : Vec Ideal S6x12x5632 .f32) r L k := by
  have hr := r.isLt
  have hL := L.isLt
  have hp : Value.pt8Of (ix2 r L) = 12 * (L.val / 512) + 11 := by
    show 12 * (11 * (r.val / 2048 - 0) + 1 * (L.val / 512 - 0)) + 11 = _
    omega
  have hn : Value.pt8Of (ix2 r L) < cfg0.N := lt_of_lt_of_eq (by rw [hp]; omega) N_0.symm
  refine (dif_pos hn).trans ?_
  rw [← Value.outsAt0_sweep m c _ hn]
  refine Eq.trans (congrArg _ ?_) (first_total m c ⟨Value.pt8Of (ix2 r L), hn⟩ (by show Value.pt8Of (ix2 r L) % 12 = _; omega)
    r ⟨L.val % 512, Nat.mod_lt _ (by decide)⟩ L (by show _ = Value.pt8Of (ix2 r L) / 12 * 512 + L.val % 512; omega))
  funext a; apply Fin.ext
  match a with
  | ⟨0, _⟩ => exact Nat.mod_eq_of_lt hr
  | ⟨1, _⟩ => rfl

/-- The second result array: the product of the first activation with the second widened gradient codes. -/
theorem array9 (c : Dev nD) (r : Fin 2048) (L : Fin 5632) :
    (Value.G9 m c : Vec Ideal S2048x5632 .f32) (ix2 r L)
      = ∑ k : Fin 9216, term (m ((c : Thread nD τ).loc main_arg0) : Vec Ideal S2048x9216 .bf16)
          (m ((c : Thread nD τ).loc main_arg4) : Vec Ideal S9216x5632 .fp8e4m3)
          (m ((c : Thread nD τ).loc main_arg5) : Vec Ideal S6x12x5632 .f32) r L k := by
  have hr := r.isLt
  have hL := L.isLt
  have hp : Value.pt9Of (ix2 r L) = 12 * (L.val / 512) + 11 := by
    show 12 * (11 * (r.val / 2048 - 0) + 1 * (L.val / 512 - 0)) + 11 = _
    omega
  have hn : Value.pt9Of (ix2 r L) < cfg0.N := lt_of_lt_of_eq (by rw [hp]; omega) N_0.symm
  refine (dif_pos hn).trans ?_
  rw [← Value.outsAt0_sweep m c _ hn]
  refine Eq.trans (congrArg _ ?_) (second_total m c ⟨Value.pt9Of (ix2 r L), hn⟩ (by show Value.pt9Of (ix2 r L) % 12 = _; omega)
    r ⟨L.val % 512, Nat.mod_lt _ (by decide)⟩ L (by show _ = Value.pt9Of (ix2 r L) / 12 * 512 + L.val % 512; omega))
  funext a; apply Fin.ext
  match a with
  | ⟨0, _⟩ => exact Nat.mod_eq_of_lt hr
  | ⟨1, _⟩ => rfl

/-- The third result array, whose blocks are the accumulator transposed: the product of the widened hidden codes with
    the second activation. -/
theorem array10 (c : Dev nD) (L : Fin 5632) (r : Fin 2048) :
    (Value.G10 m c : Vec Ideal S5632x2048 .f32) (ix2 L r)
      = ∑ k : Fin 9216, term (m ((c : Thread nD τ).loc main_arg1) : Vec Ideal S2048x9216 .bf16)
          (m ((c : Thread nD τ).loc main_arg6) : Vec Ideal S9216x5632 .fp8e4m3)
          (m ((c : Thread nD τ).loc main_arg7) : Vec Ideal S6x12x5632 .f32) r L k := by
  have hr := r.isLt
  have hL := L.isLt
  have hp : Value.pt10Of (ix2 L r) = 12 * (L.val / 512) + 11 := by
    show 12 * (1 * (L.val / 512 - 0) + 1 * (r.val / 2048 - 0)) + 11 = _
    omega
  have hn : Value.pt10Of (ix2 L r) < cfg0.N := lt_of_lt_of_eq (by rw [hp]; omega) N_0.symm
  have hm : Value.pt10Of (ix2 L r) % 12 = 11 := by omega
  refine (dif_pos hn).trans ?_
  rw [← Value.outsAt0_sweep m c _ hn]
  refine (third_out m c ⟨Value.pt10Of (ix2 L r), hn⟩ hm _).trans ?_
  refine Eq.trans (congrArg _ ?_) (third_total m c ⟨Value.pt10Of (ix2 L r), hn⟩ hm
    r ⟨L.val % 512, Nat.mod_lt _ (by decide)⟩ L (by show _ = Value.pt10Of (ix2 L r) / 12 * 512 + L.val % 512; omega))
  funext a; apply Fin.ext
  match a with
  | ⟨0, _⟩ => exact Nat.mod_eq_of_lt hr
  | ⟨1, _⟩ => rfl

end Cert.KernelIdeal.Val
end
-- ==== Proof.Terms.lean ====
/-
  WHAT THE REFERENCE COMPUTES, element by element.
-/
module

public import proofs.«01_k».proof.Proof.Gen.ReferenceIdeal.Value
public import Idealize.ShloMosaic.Lib.Tactic
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem Idealize.ShloMosaic.Tactic

namespace Cert.ReferenceIdeal.Val

open Cert.ReferenceIdeal Cert.ReferenceIdeal.Gen

/-- The first result of the reference: the sum over tokens of activation, code and scale. -/
theorem first_apply (a0 a1 : Vec Ideal S2048x9216 .bf16) (a2 : Vec Ideal S9216x5632 .fp8e4m3) (a3 : Vec Ideal S6x12x5632 .f32)
    (a4 : Vec Ideal S9216x5632 .fp8e4m3) (a5 : Vec Ideal S6x12x5632 .f32) (a6 : Vec Ideal S9216x5632 .fp8e4m3) (a7 : Vec Ideal S6x12x5632 .f32)
    (r : Fin 2048) (l : Fin 5632) :
    Value.G8 a0 a1 a2 a3 a4 a5 a6 a7 (ix2 r l)
      = ∑ k : Fin 9216, a0 (ix2 r k) * (a2 (ix2 k l)
          * a3 (ix3 (n0 := 6) (n1 := 12) (n2 := 5632) ⟨k.val / 1536, by omega⟩ ⟨k.val / 128 % 12, by omega⟩ l)) := by
  unfold Value.G8
  pointwise [k0_pay3]

/-- The second result of the reference: the sum over tokens of activation, code and scale. -/
theorem second_apply (a0 a1 : Vec Ideal S2048x9216 .bf16) (a2 : Vec Ideal S9216x5632 .fp8e4m3) (a3 : Vec Ideal S6x12x5632 .f32)
    (a4 : Vec Ideal S9216x5632 .fp8e4m3) (a5 : Vec Ideal S6x12x5632 .f32) (a6 : Vec Ideal S9216x5632 .fp8e4m3) (a7 : Vec Ideal S6x12x5632 .f32)
    (r : Fin 2048) (l : Fin 5632) :
    Value.G9 a0 a1 a2 a3 a4 a5 a6 a7 (ix2 r l)
      = ∑ k : Fin 9216, a0 (ix2 r k) * (a4 (ix2 k l)
          * a5 (ix3 (n0 := 6) (n1 := 12) (n2 := 5632) ⟨k.val / 1536, by omega⟩ ⟨k.val / 128 % 12, by omega⟩ l)) := by
  unfold Value.G9
  pointwise [k0_pay4]

/-- The third result of the reference: the same sum of the second activation, with the factors in the other order. -/
theorem third_apply (a0 a1 : Vec Ideal S2048x9216 .bf16) (a2 : Vec Ideal S9216x5632 .fp8e4m3) (a3 : Vec Ideal S6x12x5632 .f32)
    (a4 : Vec Ideal S9216x5632 .fp8e4m3) (a5 : Vec Ideal S6x12x5632 .f32) (a6 : Vec Ideal S9216x5632 .fp8e4m3) (a7 : Vec Ideal S6x12x5632 .f32)
    (l : Fin 5632) (r : Fin 2048) :
    Value.G10 a0 a1 a2 a3 a4 a5 a6 a7 (ix2 l r)
      = ∑ k : Fin 9216, a1 (ix2 r k) * (a6 (ix2 k l)
          * a7 (ix3 (n0 := 6) (n1 := 12) (n2 := 5632) ⟨k.val / 1536, by omega⟩ ⟨k.val / 128 % 12, by omega⟩ l)) := by
  unfold Value.G10
  pointwise [k0_pay1, k0_pay2]
  exact Finset.sum_congr rfl fun k _ => mul_comm _ _

end Cert.ReferenceIdeal.Val
end
-- ==== Proof.Scales.lean ====
/-
  THE EQUATION OF THE TWO SIDES: where the scales are not negative, a scale's maximum with zero is the scale.
-/
module

public import proofs.«01_k».proof.Proof.Arrays
public import proofs.«01_k».proof.Proof.Terms
public import proofs.«01_k».proof.Defs

@[expose] public section

set_option maxRecDepth 16384

noncomputable section

open Idealize.ShloMosaic Idealize.ShloMosaic.TcCoe Idealize.SL.Sem Idealize.ShloMosaic.Tactic

namespace Cert.KernelIdeal.Val

open Cert.KernelIdeal Cert.KernelIdeal.Gen

/-- An array of scales the precondition's comparison holds of everywhere has no negative element. -/
theorem nonneg_of_oge (s : Vec Ideal S6x12x5632 .f32) (hb)
    (h : cmpf .oge s (broadcastInDim S6x12x5632 ![] hb (constant (F := Ideal) Cert.Pre_scales_nonnegative.S_ .f32 0x00000000#32)) = fun _ => 1#1)
    (a : Fin 6) (b : Fin 12) (l : Fin 5632) : (0 : EReal) ≤ s (ix3 a b l) := by
  have h2 := congrFun h (ix3 a b l)
  pointwise at h2
  by_contra hn
  rw [decide_eq_false hn] at h2
  exact absurd h2 (by decide)

/-- Where the scale is not negative, the kernel's term is activation times code times scale. -/
theorem term_eq (x : Vec Ideal S2048x9216 .bf16) (q : Vec Ideal S9216x5632 .fp8e4m3) (s : Vec Ideal S6x12x5632 .f32)
    (hs : ∀ a b l, (0 : EReal) ≤ s (ix3 a b l)) (r : Fin 2048) (l : Fin 5632) (k : Fin 9216) :
    term x q s r l k = x (ix2 r k) * (q (ix2 k l)
      * s (ix3 (n0 := 6) (n1 := 12) (n2 := 5632) ⟨k.val / 1536, by omega⟩ ⟨k.val / 128 % 12, by omega⟩ l)) := by
  unfold term
  rw [max_eq_left (hs _ _ _)]

end Cert.KernelIdeal.Val
end
-- ==== Proof.OutTerms.lean ====
/-
  WHAT THE REFERENCE OF THE OUTPUT AND INPUT GRADIENT COMPUTES, element by element.
-/
module

public import proofs.«01_k».proof.Proof.Gen.OutReferenceIdeal.Value
public import Idealize.ShloMosaic.Lib.Tactic
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem Idealize.ShloMosaic.Tactic

namespace Cert.OutReferenceIdeal.Val

open Cert.OutReferenceIdeal Cert.OutReferenceIdeal.Gen

/-- The first result of the reference: the sum over hidden columns of hidden value, code and scale. -/
theorem first_apply (a0 a1 : Vec Ideal S16x44 .f32) (a2 : Vec Ideal S44x16 .f32) (a3 a4 a5 : Vec Ideal S36x256x5632 .bf16)
    (a6 a7 : Vec Ideal S2048x5632 .fp8e4m3) (a8 : Vec Ideal S5632x2048 .fp8e4m3) (r : Fin 9216) (l : Fin 2048) :
    Value.G9 a0 a1 a2 a3 a4 a5 a6 a7 a8 (ix2 r l)
      = ∑ k : Fin 5632, a3 (ix3 (n0 := 36) (n1 := 256) (n2 := 5632) ⟨r.val / 256, by omega⟩ ⟨r.val % 256, by omega⟩ k)
          * (a8 (ix2 k l) * a2 (ix2 (n0 := 44) (n1 := 16) ⟨k.val / 128, by omega⟩ ⟨l.val / 128, by omega⟩)) := by
  unfold Value.G9
  pointwise [k0_pay6]

/-- The second result of the reference: two such sums, over the two gradients and their transposed weights. -/
theorem second_apply (a0 a1 : Vec Ideal S16x44 .f32) (a2 : Vec Ideal S44x16 .f32) (a3 a4 a5 : Vec Ideal S36x256x5632 .bf16)
    (a6 a7 : Vec Ideal S2048x5632 .fp8e4m3) (a8 : Vec Ideal S5632x2048 .fp8e4m3) (r : Fin 9216) (l : Fin 2048) :
    Value.G10 a0 a1 a2 a3 a4 a5 a6 a7 a8 (ix2 r l)
      = (∑ k : Fin 5632, a4 (ix3 (n0 := 36) (n1 := 256) (n2 := 5632) ⟨r.val / 256, by omega⟩ ⟨r.val % 256, by omega⟩ k)
          * (a6 (ix2 l k) * a0 (ix2 (n0 := 16) (n1 := 44) ⟨l.val / 128, by omega⟩ ⟨k.val / 128, by omega⟩)))
        + ∑ k : Fin 5632, a5 (ix3 (n0 := 36) (n1 := 256) (n2 := 5632) ⟨r.val / 256, by omega⟩ ⟨r.val % 256, by omega⟩ k)
          * (a7 (ix2 l k) * a1 (ix2 (n0 := 16) (n1 := 44) ⟨l.val / 128, by omega⟩ ⟨k.val / 128, by omega⟩)) := by
  unfold Value.G10
  pointwise [k0_pay1, k0_pay2, k0_pay3, k0_pay4, k0_pay5]

end Cert.OutReferenceIdeal.Val
end
-- ==== Proof.OutWiden.lean ====
/-
  WHAT ONE POINT OF THE OUTPUT AND INPUT-GRADIENT KERNEL WIDENS: 64 tiles of 128 by 128 codes of each of the three weight
  blocks, each tile multiplied by the one scale the kernel reads for it.
-/
module

public import proofs.«01_k».proof.Proof.Gen.OutIdeal.Skeleton
public import Idealize.ShloMosaic.Lib.Ring
public import Idealize.ShloMosaic.Lib.Tactic
public import Idealize.ShloMosaic.Lib.Pipeline.ValueKit
public import Idealize.ShloMosaic.Lib.Pipeline.ReadBack
public import Idealize.ShloMosaic.Lib.Pointwise
public import Idealize.ShloMosaic.PureOps.Ideal

@[expose] public section

set_option maxRecDepth 16384

noncomputable section

open Idealize.ShloMosaic Idealize.ShloMosaic.TcCoe Idealize.SL.Sem Idealize.ShloMosaic.Tactic

namespace Cert.OutIdeal.Val

open Cert.OutIdeal Cert.OutIdeal.Gen

/-- A weight block whose rows are tokens' columns: code times the scale of its tile of 128 by 128; the block's 512
    columns are those of column block `i 1`. -/
def wideCols (i : grid0.Coords) (q : Vec Ideal S2048x512 .fp8e4m3) (s : Vec Ideal S16x44 .f32) : Vec Ideal S2048x512 .bf16 :=
  fun y => q y * s (ix2 (n0 := 16) (n1 := 44) ⟨(y 0).val / 128, by have : (y 0).val < 2048 := (y 0).isLt; omega⟩
    ⟨(i 1).val * 4 + (y 1).val / 128, by have : (y 1).val < 512 := (y 1).isLt; have : (i 1).val < 11 := (i 1).isLt; omega⟩)

/-- The transposed weight block likewise: its 512 rows are those of block `i 1`. -/
def wideRows (i : grid0.Coords) (q : Vec Ideal S512x2048 .fp8e4m3) (s : Vec Ideal S44x16 .f32) : Vec Ideal S512x2048 .bf16 :=
  fun y => q y * s (ix2 (n0 := 44) (n1 := 16)
    ⟨(i 1).val * 4 + (y 0).val / 128, by have : (y 0).val < 512 := (y 0).isLt; have : (i 1).val < 11 := (i 1).isLt; omega⟩
    ⟨(y 1).val / 128, by have : (y 1).val < 2048 := (y 1).isLt; omega⟩)

/-- The scale's place along the blocked axis, as the kernel computes it in 32-bit words. -/
theorem place_word : ∀ a : Fin 11, ∀ n : Fin 4,
    (Scalar.indexCast (Scalar.addi (Scalar.muli (BitVec.ofNat 32 a.val) 4#32) (BitVec.ofNat 32 n.val))).toNat = a.val * 4 + n.val := by decide

/-- The same at grid coordinates. -/
theorem place (i : grid0.Coords) (n : Fin 4) :
    (Scalar.indexCast (Scalar.addi (Scalar.muli (BitVec.ofNat 32 (i 1).val) 4#32) (BitVec.ofNat 32 n.val))).toNat = (i 1).val * 4 + n.val :=
  place_word ⟨(i 1).val, (i 1).isLt⟩ n

/-- One tile's payload at an index: code times scale. -/
theorem tile_apply (v : Vec Ideal S128x128 .fp8e4m3) (a : Elt Ideal .f32) (x : S128x128.Idx) : k0_pay5 v a x = v x * a := by
  idx_vars x
  pointwise [k0_pay5]

/-- A stored piece that holds `G` at its own place. -/
def Holds {S : Shape} {e : EltTy} (G : Vec Ideal S e) (p : View.Piece (Elt Ideal) S e) : Prop := ∀ x, p.2 x = G (p.1.emb x)

/-- Pieces of 128 by 128 that tile a buffer and each hold `G` at their place read back, whole, as `G`. -/
theorem readBackCols (b : View sig .tc .vmem S2048x512 .bf16) (L : List (View.Piece (Elt Ideal) S2048x512 .bf16)) (G : Vec Ideal S2048x512 .bf16)
    (hc : View.Piece.tiledL L ![128, 128] = true) (h : ∀ p ∈ L, Holds G p) :
    b.readCov L (Rect.unit ![0, 0] ![2048, 512] inb_S2048x512_S2048x512_0_0).toLoadRect = G := by
  rw [View.readCov_eq_canon_ld]
  · refine (View.ld_unit_lit' (S := S2048x512) _ _ (by decide)).trans ?_
    funext y
    exact View.canon_eq_of_allAt L y _ (View.cover_of_tiledL L ![128, 128] hc y)
      fun p hp x hx => (h p hp x).trans (congrArg G hx)
  · exact View.cover_of_tiledL L ![128, 128] hc

/-- The same of the transposed buffer. -/
theorem readBackRows (b : View sig .tc .vmem S512x2048 .bf16) (L : List (View.Piece (Elt Ideal) S512x2048 .bf16)) (G : Vec Ideal S512x2048 .bf16)
    (hc : View.Piece.tiledL L ![128, 128] = true) (h : ∀ p ∈ L, Holds G p) :
    b.readCov L (Rect.unit ![0, 0] ![512, 2048] inb_S512x2048_S512x2048_0_0).toLoadRect = G := by
  rw [View.readCov_eq_canon_ld]
  · refine (View.ld_unit_lit' (S := S512x2048) _ _ (by decide)).trans ?_
    funext y
    exact View.canon_eq_of_allAt L y _ (View.cover_of_tiledL L ![128, 128] hc y)
      fun p hp x hx => (h p hp x).trans (congrArg G hx)
  · exact View.cover_of_tiledL L ![128, 128] hc

/-- ONE TILE of a weight block: stored at rows from `r` and columns from `c`, its codes loaded at the same place and its
    scale read at `o`, it holds the widened block. -/
theorem tileCols (i : grid0.Coords) (q : Vec Ideal S2048x512 .fp8e4m3) (s : Vec Ideal S16x44 .f32) (n : Fin 4) (r c : ℕ)
    (inb inb' : ∀ a, (![r, c] : Fin 2 → ℕ) a + S128x128.size a ≤ S2048x512.size a) (o : Fin 2 → ℕ) (inbo : ∀ a, o a + S1x1.size a ≤ S16x44.size a)
    (z : S1x1.Idx) (w : S128x128.Idx → Elt Ideal .bf16)
    (hw : w = k0_pay5 (View.ld q (Rect.unit (s := S2048x512) ![r, c] S128x128.size inb')) (View.ld s (Rect.unit (s := S16x44) o S1x1.size inbo) z))
    (hr : r = 128 * o 0) (ho : o 1 = (i 1).val * 4 + n.val) (hc : c = 128 * n.val) :
    Holds (wideCols i q s) (⟨Rect.unit (s := S2048x512) ![r, c] S128x128.size inb, w⟩ : View.Piece (Elt Ideal) S2048x512 .bf16) := by
  subst hw
  intro x
  refine (tile_apply _ _ x).trans ?_
  have hx0 : (x 0).val < 128 := (x 0).isLt
  have hx1 : (x 1).val < 128 := (x 1).isLt
  have hz0 : (z 0).val < 1 := (z 0).isLt
  have hz1 : (z 1).val < 1 := (z 1).isLt
  refine congrArg₂ (· * ·) rfl (View.ld_unit_apply_of s o S1x1.size inbo z _ fun a => ?_)
  match a with
  | ⟨0, _⟩ =>
    show (r + 1 * (x 0).val) / 128 = o 0 + (z 0).val
    omega
  | ⟨1, _⟩ =>
    show (i 1).val * 4 + (c + 1 * (x 1).val) / 128 = o 1 + (z 1).val
    omega

/-- One tile of the transposed weight block. -/
theorem tileRows (i : grid0.Coords) (q : Vec Ideal S512x2048 .fp8e4m3) (s : Vec Ideal S44x16 .f32) (n : Fin 4) (r c : ℕ)
    (inb inb' : ∀ a, (![r, c] : Fin 2 → ℕ) a + S128x128.size a ≤ S512x2048.size a) (o : Fin 2 → ℕ) (inbo : ∀ a, o a + S1x1.size a ≤ S44x16.size a)
    (z : S1x1.Idx) (w : S128x128.Idx → Elt Ideal .bf16)
    (hw : w = k0_pay5 (View.ld q (Rect.unit (s := S512x2048) ![r, c] S128x128.size inb')) (View.ld s (Rect.unit (s := S44x16) o S1x1.size inbo) z))
    (hc : c = 128 * o 1) (ho : o 0 = (i 1).val * 4 + n.val) (hr : r = 128 * n.val) :
    Holds (wideRows i q s) (⟨Rect.unit (s := S512x2048) ![r, c] S128x128.size inb, w⟩ : View.Piece (Elt Ideal) S512x2048 .bf16) := by
  subst hw
  intro x
  refine (tile_apply _ _ x).trans ?_
  have hx0 : (x 0).val < 128 := (x 0).isLt
  have hx1 : (x 1).val < 128 := (x 1).isLt
  have hz0 : (z 0).val < 1 := (z 0).isLt
  have hz1 : (z 1).val < 1 := (z 1).isLt
  refine congrArg₂ (· * ·) rfl (View.ld_unit_apply_of s o S1x1.size inbo z _ fun a => ?_)
  match a with
  | ⟨0, _⟩ =>
    show (i 1).val * 4 + (r + 1 * (x 0).val) / 128 = o 0 + (z 0).val
    omega
  | ⟨1, _⟩ =>
    show (c + 1 * (x 1).val) / 128 = o 1 + (z 1).val
    omega

end Cert.OutIdeal.Val
end
-- ==== Proof.OutSteps.lean ====
/-
  WHAT ONE STORE OF THE OUTPUT AND INPUT-GRADIENT KERNEL ADDS: two halves of 256 rows, each the running sum plus a product
  over 512 hidden columns, which together are the whole block's running sum plus the whole block's product.
-/
module

public import proofs.«01_k».proof.Proof.OutWiden

@[expose] public section

set_option maxRecDepth 16384

noncomputable section

open Idealize.ShloMosaic Idealize.ShloMosaic.TcCoe Idealize.SL.Sem Idealize.ShloMosaic.Tactic

namespace Cert.OutIdeal.Val

open Cert.OutIdeal Cert.OutIdeal.Gen

/-- One block's product for the output: hidden values of 512 columns times the widened weight block. -/
def prodY (h : Vec Ideal S2x256x512 .bf16) (w : Vec Ideal S512x2048 .bf16) : Vec Ideal S512x2048 .f32 :=
  fun y => ∑ k : Fin 512, h (ix3 (n0 := 2) (n1 := 256) (n2 := 512) ⟨(y 0).val / 256, by have : (y 0).val < 512 := (y 0).isLt; omega⟩
    ⟨(y 0).val % 256, by omega⟩ k) * w (ix2 (n0 := 512) (n1 := 2048) k (y 1))

/-- One block's product with a transposed weight block: a gradient's values of 512 columns times the weights' rows. -/
def prodT (d : Vec Ideal S2x256x512 .bf16) (w : Vec Ideal S2048x512 .bf16) : Vec Ideal S512x2048 .f32 :=
  fun y => ∑ k : Fin 512, d (ix3 (n0 := 2) (n1 := 256) (n2 := 512) ⟨(y 0).val / 256, by have : (y 0).val < 512 := (y 0).isLt; omega⟩
    ⟨(y 0).val % 256, by omega⟩ k) * w (ix2 (n0 := 2048) (n1 := 512) (y 1) k)

/-- The output's step on a half, at an element (the second half's payload is the same function). -/
theorem pay325_apply (a : Vec Ideal S256x2048 .f32) (h : Vec Ideal S1x256x512 .bf16) (w : Vec Ideal S512x2048 .bf16) (r : Fin 256) (l : Fin 2048) :
    k0_pay325 a h w (ix2 r l) = a (ix2 r l) + ∑ k : Fin 512, h (ix3 0 r k) * w (ix2 k l) := by
  pointwise [k0_pay325]

/-- The input gradient's step on a half, at an element. -/
theorem pay326_apply (a : Vec Ideal S256x2048 .f32) (d e : Vec Ideal S1x256x512 .bf16) (w v : Vec Ideal S2048x512 .bf16) (r : Fin 256) (l : Fin 2048) :
    k0_pay326 a d w e v (ix2 r l)
      = a (ix2 r l) + ((∑ k : Fin 512, d (ix3 0 r k) * w (ix2 l k)) + ∑ k : Fin 512, e (ix3 0 r k) * v (ix2 l k)) := by
  pointwise [k0_pay326]

/-- The reset blocks are zero. -/
theorem zero_y (y : S512x2048.Idx) : (k0_pay3 : FVec Ideal S512x2048 .f32) y = 0 := by
  idx_vars y
  pointwise [k0_pay3]

theorem zero_x (y : S512x2048.Idx) : (k0_pay4 : FVec Ideal S512x2048 .f32) y = 0 := by
  idx_vars y
  pointwise [k0_pay4]

/-- The stored results are the running sums themselves. -/
theorem store_y (a : FVec Ideal S512x2048 .f32) (y : S512x2048.Idx) : (k0_pay1 (F := Ideal) a y : EReal) = a y := by
  idx_vars y
  pointwise [k0_pay1]

theorem store_x (a : FVec Ideal S512x2048 .f32) (y : S512x2048.Idx) : (k0_pay2 (F := Ideal) a y : EReal) = a y := by
  idx_vars y
  pointwise [k0_pay2]

/-- TWO HALVES STORED LAST make the block, whatever was stored before them. -/
theorem halves (w0 w1 : Vec Ideal S256x2048 .f32) (L : List (View.Piece (Elt Ideal) S512x2048 .f32)) (G : Vec Ideal S512x2048 .f32)
    (h : ∀ (r : Fin 256) (l : Fin 2048) (k : Fin 512), (k.val = r.val → w0 (ix2 r l) = G (ix2 k l))
      ∧ (k.val = 256 + r.val → w1 (ix2 r l) = G (ix2 k l))) (y : S512x2048.Idx) :
    View.canon ((⟨Rect.unit (s := S512x2048) ![256, 0] ![256, 2048] inb_S512x2048_S256x2048_256_0, w1⟩ : View.Piece (Elt Ideal) S512x2048 .f32)
      :: ⟨Rect.unit (s := S512x2048) ![0, 0] ![256, 2048] inb_S512x2048_S256x2048_0_0, w0⟩ :: L) y = G y := by
  have h0 : (y 0).val < 512 := (y 0).isLt
  have h1 : (y 1).val < 2048 := (y 1).isLt
  by_cases hy : 256 ≤ (y 0).val
  · obtain ⟨x0, hx⟩ : ∃ x0 : Fin 256, (y 0).val = 256 + x0.val := ⟨⟨(y 0).val - 256, by omega⟩, by simp only; omega⟩
    have e : y = (Rect.unit (s := S512x2048) ![256, 0] ![256, 2048] inb_S512x2048_S256x2048_256_0).emb
        (ix2 (n0 := 256) (n1 := 2048) x0 ⟨(y 1).val, h1⟩) := by
      funext a; apply Fin.ext
      match a with
      | ⟨0, _⟩ => show (y 0).val = 256 + 1 * x0.val; omega
      | ⟨1, _⟩ => show (y 1).val = 0 + 1 * (y 1).val; omega
    conv_lhs => rw [e]
    rw [View.canon_cons_emb]
    refine ((h x0 ⟨(y 1).val, h1⟩ ⟨(y 0).val, h0⟩).2 hx).trans ?_
    exact congrArg G (funext fun a => match a with | ⟨0, _⟩ => rfl | ⟨1, _⟩ => rfl)
  · have hn : y ∉ (Rect.unit (s := S512x2048) ![256, 0] ![256, 2048] inb_S512x2048_S256x2048_256_0).set := fun hm => by
      have h2 : (![256, 0] : Fin 2 → ℕ) 0 ≤ (y 0).val := (Rect.mem_set_unit.mp hm 0).1
      exact hy h2
    refine (View.canon_cons_of_not_mem (⟨Rect.unit (s := S512x2048) ![256, 0] ![256, 2048] inb_S512x2048_S256x2048_256_0, w1⟩ : View.Piece (Elt Ideal) S512x2048 .f32) _ hn).trans ?_
    have e : y = (Rect.unit (s := S512x2048) ![0, 0] ![256, 2048] inb_S512x2048_S256x2048_0_0).emb
        (ix2 (n0 := 256) (n1 := 2048) ⟨(y 0).val, by omega⟩ ⟨(y 1).val, h1⟩) := by
      funext a; apply Fin.ext
      match a with
      | ⟨0, _⟩ => show (y 0).val = 0 + 1 * (y 0).val; omega
      | ⟨1, _⟩ => show (y 1).val = 0 + 1 * (y 1).val; omega
    conv_lhs => rw [e]
    rw [View.canon_cons_emb]
    refine ((h ⟨(y 0).val, by omega⟩ ⟨(y 1).val, h1⟩ ⟨(y 0).val, h0⟩).1 rfl).trans ?_
    exact congrArg G (funext fun a => match a with | ⟨0, _⟩ => rfl | ⟨1, _⟩ => rfl)

/-- A running sum's load of one half of its rows, at an element. -/
theorem ld_half (a : Vec Ideal S512x2048 .f32) (o : ℕ) (inb : ∀ b, (![o, 0] : Fin 2 → ℕ) b + S256x2048.size b ≤ S512x2048.size b)
    (r : Fin 256) (l : Fin 2048) (k : Fin 512) (hk : k.val = o + r.val) :
    (View.ld a (Rect.unit (s := S512x2048) ![o, 0] S256x2048.size inb) (ix2 r l) : EReal) = a (ix2 k l) :=
  View.ld_unit_apply_of a _ _ inb (ix2 r l) (ix2 k l) fun b => match b with
    | ⟨0, _⟩ => hk
    | ⟨1, _⟩ => (Nat.zero_add _).symm

/-- A block of 256 rows of an input, at an element of the 512 rows. -/
theorem ld_block (h : Vec Ideal S2x256x512 .bf16) (o : ℕ) (ho : o < 2)
    (inb : ∀ b, (![o, 0, 0] : Fin 3 → ℕ) b + S1x256x512.size b ≤ S2x256x512.size b)
    (r : Fin 256) (k : Fin 512) (i0 : Fin 2) (i1 : Fin 256) (h0 : i0.val = o) (h1 : i1.val = r.val) :
    (View.ld h (Rect.unit (s := S2x256x512) ![o, 0, 0] S1x256x512.size inb) (ix3 0 r k) : EReal) = h (ix3 i0 i1 k) :=
  View.ld_unit_apply_of h _ _ inb (ix3 0 r k) (ix3 i0 i1 k) fun b => match b with
    | ⟨0, _⟩ => h0
    | ⟨1, _⟩ => h1.trans (Nat.zero_add _).symm
    | ⟨2, _⟩ => (Nat.zero_add _).symm

/-- The output's two halves: the whole block's running sum plus the whole block's product. -/
theorem halves_y (a : Vec Ideal S512x2048 .f32) (h : Vec Ideal S2x256x512 .bf16) (w : Vec Ideal S512x2048 .bf16)
    (L : List (View.Piece (Elt Ideal) S512x2048 .f32)) (y : S512x2048.Idx) :
    View.canon ((⟨Rect.unit (s := S512x2048) ![256, 0] ![256, 2048] inb_S512x2048_S256x2048_256_0,
        k0_pay327 (View.ld a (Rect.unit ![256, 0] ![256, 2048] inb_S512x2048_S256x2048_256_0))
          (View.ld h (Rect.unit ![1, 0, 0] ![1, 256, 512] inb_S2x256x512_S1x256x512_1_0_0)) w⟩ : View.Piece (Elt Ideal) S512x2048 .f32)
      :: ⟨Rect.unit (s := S512x2048) ![0, 0] ![256, 2048] inb_S512x2048_S256x2048_0_0,
        k0_pay325 (View.ld a (Rect.unit ![0, 0] ![256, 2048] inb_S512x2048_S256x2048_0_0))
          (View.ld h (Rect.unit ![0, 0, 0] ![1, 256, 512] inb_S2x256x512_S1x256x512_0_0_0)) w⟩ :: L) y
      = a y + prodY h w y := by
  refine halves _ _ L (fun y => a y + prodY h w y) (fun r l k => ⟨fun hk => ?_, fun hk => ?_⟩) y
  · refine (pay325_apply _ _ w r l).trans (congrArg₂ (· + ·) (ld_half a 0 _ r l k (by omega)) ?_)
    exact Finset.sum_congr rfl fun j _ => congrArg (· * _) (ld_block h 0 (by omega) _ r j _ _
      (by show k.val / 256 = 0; omega) (by show k.val % 256 = r.val; omega))
  · refine (pay325_apply _ _ w r l).trans (congrArg₂ (· + ·) (ld_half a 256 _ r l k hk) ?_)
    exact Finset.sum_congr rfl fun j _ => congrArg (· * _) (ld_block h 1 (by omega) _ r j _ _
      (by show k.val / 256 = 1; omega) (by show k.val % 256 = r.val; omega))

/-- The input gradient's two halves likewise, with two products. -/
theorem halves_x (a : Vec Ideal S512x2048 .f32) (d e : Vec Ideal S2x256x512 .bf16) (w v : Vec Ideal S2048x512 .bf16)
    (L : List (View.Piece (Elt Ideal) S512x2048 .f32)) (y : S512x2048.Idx) :
    View.canon ((⟨Rect.unit (s := S512x2048) ![256, 0] ![256, 2048] inb_S512x2048_S256x2048_256_0,
        k0_pay328 (View.ld a (Rect.unit ![256, 0] ![256, 2048] inb_S512x2048_S256x2048_256_0))
          (View.ld d (Rect.unit ![1, 0, 0] ![1, 256, 512] inb_S2x256x512_S1x256x512_1_0_0)) w
          (View.ld e (Rect.unit ![1, 0, 0] ![1, 256, 512] inb_S2x256x512_S1x256x512_1_0_0)) v⟩ : View.Piece (Elt Ideal) S512x2048 .f32)
      :: ⟨Rect.unit (s := S512x2048) ![0, 0] ![256, 2048] inb_S512x2048_S256x2048_0_0,
        k0_pay326 (View.ld a (Rect.unit ![0, 0] ![256, 2048] inb_S512x2048_S256x2048_0_0))
          (View.ld d (Rect.unit ![0, 0, 0] ![1, 256, 512] inb_S2x256x512_S1x256x512_0_0_0)) w
          (View.ld e (Rect.unit ![0, 0, 0] ![1, 256, 512] inb_S2x256x512_S1x256x512_0_0_0)) v⟩ :: L) y
      = a y + (prodT d w y + prodT e v y) := by
  refine halves _ _ L (fun y => a y + (prodT d w y + prodT e v y)) (fun r l k => ⟨fun hk => ?_, fun hk => ?_⟩) y
  · refine (pay326_apply _ _ _ w v r l).trans (congrArg₂ (· + ·) (ld_half a 0 _ r l k (by omega)) (congrArg₂ (· + ·) ?_ ?_))
    · exact Finset.sum_congr rfl fun j _ => congrArg (· * _) (ld_block d 0 (by omega) _ r j _ _
        (by show k.val / 256 = 0; omega) (by show k.val % 256 = r.val; omega))
    · exact Finset.sum_congr rfl fun j _ => congrArg (· * _) (ld_block e 0 (by omega) _ r j _ _
        (by show k.val / 256 = 0; omega) (by show k.val % 256 = r.val; omega))
  · refine (pay326_apply _ _ _ w v r l).trans (congrArg₂ (· + ·) (ld_half a 256 _ r l k hk) (congrArg₂ (· + ·) ?_ ?_))
    · exact Finset.sum_congr rfl fun j _ => congrArg (· * _) (ld_block d 1 (by omega) _ r j _ _
        (by show k.val / 256 = 1; omega) (by show k.val % 256 = r.val; omega))
    · exact Finset.sum_congr rfl fun j _ => congrArg (· * _) (ld_block e 1 (by omega) _ r j _ _
        (by show k.val / 256 = 1; omega) (by show k.val % 256 = r.val; omega))

end Cert.OutIdeal.Val
end
-- ==== Proof.OutX.lean ====
/-
  WHAT ONE GRID POINT LEAVES in the input gradient: zero plus one product of 512 hidden columns at
  the first column block of a tile of tokens, what the point before left plus one product at every other; and the
  result's block at the last column block is the running sum.
-/
module

public import proofs.«01_k».proof.Proof.Gen.OutIdeal.Value
public import proofs.«01_k».proof.Proof.OutSteps

@[expose] public section

set_option maxRecDepth 16384
set_option maxHeartbeats 4000000

noncomputable section

open Idealize.ShloMosaic Idealize.ShloMosaic.TcCoe Idealize.SL.Sem Idealize.ShloMosaic.Tactic

namespace Cert.OutIdeal.Val

open Cert.OutIdeal Cert.OutIdeal.Gen

variable (m : (ℓ : Loc nD τ sig) → Buf (Elt Ideal) ℓ)

/-- The running sum of the input gradient after a point that starts a tile of tokens: zero plus the point's products. -/
theorem x_A (c : Dev nD) (t : Fin cfg0.N) (h0 : t.val % 11 = 0) (y : S512x2048.Idx) :
    (outsAt0 m c t.val t.isLt).2.2.2 y = 0 + (prodT (iblk m c 4 t) (wideCols (grid0.coords t) (iblk m c 6 t) (iblk m c 0 t)) y
        + prodT (iblk m c 5 t) (wideCols (grid0.coords t) (iblk m c 7 t) (iblk m c 1 t)) y) := by
  rw [outsAt0_A m c t h0 (by omega)]
  frame_open
  simp (disch := decide) only [↓ View.readCov_skip, ↓ View.readCov_cons_toLoadRect, ↓ View.readCov_fill]
  frame_out
  rw [readBackCols (G := wideCols (grid0.coords t) (iblk m c 6 t) (iblk m c 0 t)),
    readBackCols (G := wideCols (grid0.coords t) (iblk m c 7 t) (iblk m c 1 t))]
  rotate_left
  · rfl
  · iterate 16
      refine List.forall_mem_cons.2 ⟨tileCols _ _ _ 3 _ _ _ _ _ _ _ _ rfl rfl (place _ 3) rfl, ?_⟩
      refine List.forall_mem_cons.2 ⟨tileCols _ _ _ 2 _ _ _ _ _ _ _ _ rfl rfl (place _ 2) rfl, ?_⟩
      refine List.forall_mem_cons.2 ⟨tileCols _ _ _ 1 _ _ _ _ _ _ _ _ rfl rfl (place _ 1) rfl, ?_⟩
      refine List.forall_mem_cons.2 ⟨tileCols _ _ _ 0 _ _ _ _ _ _ _ _ rfl rfl (place _ 0) rfl, ?_⟩
    exact fun _ h => absurd h List.not_mem_nil
  · rfl
  · iterate 16
      refine List.forall_mem_cons.2 ⟨tileCols _ _ _ 3 _ _ _ _ _ _ _ _ rfl rfl (place _ 3) rfl, ?_⟩
      refine List.forall_mem_cons.2 ⟨tileCols _ _ _ 2 _ _ _ _ _ _ _ _ rfl rfl (place _ 2) rfl, ?_⟩
      refine List.forall_mem_cons.2 ⟨tileCols _ _ _ 1 _ _ _ _ _ _ _ _ rfl rfl (place _ 1) rfl, ?_⟩
      refine List.forall_mem_cons.2 ⟨tileCols _ _ _ 0 _ _ _ _ _ _ _ _ rfl rfl (place _ 0) rfl, ?_⟩
    exact fun _ h => absurd h List.not_mem_nil
  exact (halves_x _ _ _ _ _ _ y).trans (congrArg (· + _) (zero_x y))

/-- The running sum of the input gradient after any other point: what the point before left, plus the point's products. -/
theorem x_S (c : Dev nD) (t : Fin cfg0.N) (h0 : ¬t.val % 11 = 0) (y : S512x2048.Idx) :
    (outsAt0 m c t.val t.isLt).2.2.2 y = (outsAt0 m c (t.val - 1) (Nat.lt_of_le_of_lt (Nat.sub_le _ _) t.isLt)).2.2.2 y
      + (prodT (iblk m c 4 t) (wideCols (grid0.coords t) (iblk m c 6 t) (iblk m c 0 t)) y
        + prodT (iblk m c 5 t) (wideCols (grid0.coords t) (iblk m c 7 t) (iblk m c 1 t)) y) := by
  by_cases h1 : t.val % 11 = 10
  · rw [outsAt0_C m c t h0 h1]
    frame_open
    simp (disch := decide) only [↓ View.readCov_skip, ↓ View.readCov_cons_toLoadRect, ↓ View.readCov_fill]
    frame_out
    rw [readBackCols (G := wideCols (grid0.coords t) (iblk m c 6 t) (iblk m c 0 t)),
      readBackCols (G := wideCols (grid0.coords t) (iblk m c 7 t) (iblk m c 1 t))]
    rotate_left
    · rfl
    · iterate 16
        refine List.forall_mem_cons.2 ⟨tileCols _ _ _ 3 _ _ _ _ _ _ _ _ rfl rfl (place _ 3) rfl, ?_⟩
        refine List.forall_mem_cons.2 ⟨tileCols _ _ _ 2 _ _ _ _ _ _ _ _ rfl rfl (place _ 2) rfl, ?_⟩
        refine List.forall_mem_cons.2 ⟨tileCols _ _ _ 1 _ _ _ _ _ _ _ _ rfl rfl (place _ 1) rfl, ?_⟩
        refine List.forall_mem_cons.2 ⟨tileCols _ _ _ 0 _ _ _ _ _ _ _ _ rfl rfl (place _ 0) rfl, ?_⟩
      exact fun _ h => absurd h List.not_mem_nil
    · rfl
    · iterate 16
        refine List.forall_mem_cons.2 ⟨tileCols _ _ _ 3 _ _ _ _ _ _ _ _ rfl rfl (place _ 3) rfl, ?_⟩
        refine List.forall_mem_cons.2 ⟨tileCols _ _ _ 2 _ _ _ _ _ _ _ _ rfl rfl (place _ 2) rfl, ?_⟩
        refine List.forall_mem_cons.2 ⟨tileCols _ _ _ 1 _ _ _ _ _ _ _ _ rfl rfl (place _ 1) rfl, ?_⟩
        refine List.forall_mem_cons.2 ⟨tileCols _ _ _ 0 _ _ _ _ _ _ _ _ rfl rfl (place _ 0) rfl, ?_⟩
      exact fun _ h => absurd h List.not_mem_nil
    simp only [read_unread_whole]
    exact halves_x _ _ _ _ _ _ y
  · rw [outsAt0_B m c t h0 h1]
    frame_open
    simp (disch := decide) only [↓ View.readCov_skip, ↓ View.readCov_cons_toLoadRect, ↓ View.readCov_fill]
    frame_out
    rw [readBackCols (G := wideCols (grid0.coords t) (iblk m c 6 t) (iblk m c 0 t)),
      readBackCols (G := wideCols (grid0.coords t) (iblk m c 7 t) (iblk m c 1 t))]
    rotate_left
    · rfl
    · iterate 16
        refine List.forall_mem_cons.2 ⟨tileCols _ _ _ 3 _ _ _ _ _ _ _ _ rfl rfl (place _ 3) rfl, ?_⟩
        refine List.forall_mem_cons.2 ⟨tileCols _ _ _ 2 _ _ _ _ _ _ _ _ rfl rfl (place _ 2) rfl, ?_⟩
        refine List.forall_mem_cons.2 ⟨tileCols _ _ _ 1 _ _ _ _ _ _ _ _ rfl rfl (place _ 1) rfl, ?_⟩
        refine List.forall_mem_cons.2 ⟨tileCols _ _ _ 0 _ _ _ _ _ _ _ _ rfl rfl (place _ 0) rfl, ?_⟩
      exact fun _ h => absurd h List.not_mem_nil
    · rfl
    · iterate 16
        refine List.forall_mem_cons.2 ⟨tileCols _ _ _ 3 _ _ _ _ _ _ _ _ rfl rfl (place _ 3) rfl, ?_⟩
        refine List.forall_mem_cons.2 ⟨tileCols _ _ _ 2 _ _ _ _ _ _ _ _ rfl rfl (place _ 2) rfl, ?_⟩
        refine List.forall_mem_cons.2 ⟨tileCols _ _ _ 1 _ _ _ _ _ _ _ _ rfl rfl (place _ 1) rfl, ?_⟩
        refine List.forall_mem_cons.2 ⟨tileCols _ _ _ 0 _ _ _ _ _ _ _ _ rfl rfl (place _ 0) rfl, ?_⟩
      exact fun _ h => absurd h List.not_mem_nil
    simp only [read_unread_whole]
    exact halves_x _ _ _ _ _ _ y

/-- The block of the input gradient stored at the last column block is the running sum of that point. -/
theorem x_out (c : Dev nD) (t : Fin cfg0.N) (h1 : t.val % 11 = 10) (y : S512x2048.Idx) :
    ((outsAt0 m c t.val t.isLt).2.1 y : EReal) = (outsAt0 m c t.val t.isLt).2.2.2 y := by
  rw [outsAt0_C m c t (by omega) h1]
  frame_open
  simp (disch := decide) only [↓ View.readCov_skip, ↓ View.readCov_cons_toLoadRect, ↓ View.readCov_fill]
  frame_out
  refine (store_x _ y).trans ?_
  rw [View.readCov_eq_canon_ld _ _ _ (View.cover_of_tiledL _ ![256, 2048] (by rfl))]
  exact congrFun (View.ld_unit_lit' (S := S512x2048) _ _ (by decide)) y

end Cert.OutIdeal.Val
end
-- ==== Proof.OutY.lean ====
/-
  WHAT ONE GRID POINT LEAVES in the output: zero plus one product of 512 hidden columns at
  the first column block of a tile of tokens, what the point before left plus one product at every other; and the
  result's block at the last column block is the running sum.
-/
module

public import proofs.«01_k».proof.Proof.Gen.OutIdeal.Value
public import proofs.«01_k».proof.Proof.OutSteps

@[expose] public section

set_option maxRecDepth 16384
set_option maxHeartbeats 4000000

noncomputable section

open Idealize.ShloMosaic Idealize.ShloMosaic.TcCoe Idealize.SL.Sem Idealize.ShloMosaic.Tactic

namespace Cert.OutIdeal.Val

open Cert.OutIdeal Cert.OutIdeal.Gen

variable (m : (ℓ : Loc nD τ sig) → Buf (Elt Ideal) ℓ)

/-- The running sum of the output after a point that starts a tile of tokens: zero plus the point's products. -/
theorem y_A (c : Dev nD) (t : Fin cfg0.N) (h0 : t.val % 11 = 0) (y : S512x2048.Idx) :
    (outsAt0 m c t.val t.isLt).2.2.1 y = 0 + prodY (iblk m c 3 t) (wideRows (grid0.coords t) (iblk m c 8 t) (iblk m c 2 t)) y := by
  rw [outsAt0_A m c t h0 (by omega)]
  frame_open
  simp (disch := decide) only [↓ View.readCov_skip, ↓ View.readCov_cons_toLoadRect, ↓ View.readCov_fill]
  frame_out
  rw [readBackRows (G := wideRows (grid0.coords t) (iblk m c 8 t) (iblk m c 2 t))]
  rotate_left
  · rfl
  · iterate 16
      refine List.forall_mem_cons.2 ⟨tileRows _ _ _ 3 _ _ _ _ _ _ _ _ rfl rfl (place _ 3) rfl, ?_⟩
      refine List.forall_mem_cons.2 ⟨tileRows _ _ _ 2 _ _ _ _ _ _ _ _ rfl rfl (place _ 2) rfl, ?_⟩
      refine List.forall_mem_cons.2 ⟨tileRows _ _ _ 1 _ _ _ _ _ _ _ _ rfl rfl (place _ 1) rfl, ?_⟩
      refine List.forall_mem_cons.2 ⟨tileRows _ _ _ 0 _ _ _ _ _ _ _ _ rfl rfl (place _ 0) rfl, ?_⟩
    exact fun _ h => absurd h List.not_mem_nil
  exact (halves_y _ _ _ _ y).trans (congrArg (· + _) (zero_y y))

/-- The running sum of the output after any other point: what the point before left, plus the point's products. -/
theorem y_S (c : Dev nD) (t : Fin cfg0.N) (h0 : ¬t.val % 11 = 0) (y : S512x2048.Idx) :
    (outsAt0 m c t.val t.isLt).2.2.1 y = (outsAt0 m c (t.val - 1) (Nat.lt_of_le_of_lt (Nat.sub_le _ _) t.isLt)).2.2.1 y
      + prodY (iblk m c 3 t) (wideRows (grid0.coords t) (iblk m c 8 t) (iblk m c 2 t)) y := by
  by_cases h1 : t.val % 11 = 10
  · rw [outsAt0_C m c t h0 h1]
    frame_open
    simp (disch := decide) only [↓ View.readCov_skip, ↓ View.readCov_cons_toLoadRect, ↓ View.readCov_fill]
    frame_out
    rw [readBackRows (G := wideRows (grid0.coords t) (iblk m c 8 t) (iblk m c 2 t))]
    rotate_left
    · rfl
    · iterate 16
        refine List.forall_mem_cons.2 ⟨tileRows _ _ _ 3 _ _ _ _ _ _ _ _ rfl rfl (place _ 3) rfl, ?_⟩
        refine List.forall_mem_cons.2 ⟨tileRows _ _ _ 2 _ _ _ _ _ _ _ _ rfl rfl (place _ 2) rfl, ?_⟩
        refine List.forall_mem_cons.2 ⟨tileRows _ _ _ 1 _ _ _ _ _ _ _ _ rfl rfl (place _ 1) rfl, ?_⟩
        refine List.forall_mem_cons.2 ⟨tileRows _ _ _ 0 _ _ _ _ _ _ _ _ rfl rfl (place _ 0) rfl, ?_⟩
      exact fun _ h => absurd h List.not_mem_nil
    simp only [read_unread_whole]
    exact halves_y _ _ _ _ y
  · rw [outsAt0_B m c t h0 h1]
    frame_open
    simp (disch := decide) only [↓ View.readCov_skip, ↓ View.readCov_cons_toLoadRect, ↓ View.readCov_fill]
    frame_out
    rw [readBackRows (G := wideRows (grid0.coords t) (iblk m c 8 t) (iblk m c 2 t))]
    rotate_left
    · rfl
    · iterate 16
        refine List.forall_mem_cons.2 ⟨tileRows _ _ _ 3 _ _ _ _ _ _ _ _ rfl rfl (place _ 3) rfl, ?_⟩
        refine List.forall_mem_cons.2 ⟨tileRows _ _ _ 2 _ _ _ _ _ _ _ _ rfl rfl (place _ 2) rfl, ?_⟩
        refine List.forall_mem_cons.2 ⟨tileRows _ _ _ 1 _ _ _ _ _ _ _ _ rfl rfl (place _ 1) rfl, ?_⟩
        refine List.forall_mem_cons.2 ⟨tileRows _ _ _ 0 _ _ _ _ _ _ _ _ rfl rfl (place _ 0) rfl, ?_⟩
      exact fun _ h => absurd h List.not_mem_nil
    simp only [read_unread_whole]
    exact halves_y _ _ _ _ y

/-- The block of the output stored at the last column block is the running sum of that point. -/
theorem y_out (c : Dev nD) (t : Fin cfg0.N) (h1 : t.val % 11 = 10) (y : S512x2048.Idx) :
    ((outsAt0 m c t.val t.isLt).1 y : EReal) = (outsAt0 m c t.val t.isLt).2.2.1 y := by
  rw [outsAt0_C m c t (by omega) h1]
  frame_open
  simp (disch := decide) only [↓ View.readCov_skip, ↓ View.readCov_cons_toLoadRect, ↓ View.readCov_fill]
  frame_out
  refine (store_y _ y).trans ?_
  rw [View.readCov_eq_canon_ld _ _ _ (View.cover_of_tiledL _ ![256, 2048] (by rfl))]
  exact congrFun (View.ld_unit_lit' (S := S512x2048) _ _ (by decide)) y

end Cert.OutIdeal.Val
end
-- ==== Proof.OutFold.lean ====
/-
  WHAT THE OUTPUT AND INPUT-GRADIENT SUMS END HOLDING: at each row, the sum over the eleven column blocks of a block's
  product, which is one sum over all 5632 hidden columns of a value times a code times its scale.
-/
module

public import proofs.«01_k».proof.Proof.OutX
public import proofs.«01_k».proof.Proof.OutY

@[expose] public section

set_option maxRecDepth 16384

noncomputable section

open Idealize.ShloMosaic Idealize.ShloMosaic.TcCoe Idealize.SL.Sem Idealize.ShloMosaic.Tactic
open Idealize.ShloMosaic.Pipeline (Dat)

namespace Cert.OutIdeal.Val

open Cert.OutIdeal Cert.OutIdeal.Gen

variable (m : (ℓ : Loc nD τ sig) → Buf (Elt Ideal) ℓ)

/-- Hidden column `k`'s value in row `r`, times its code in column `l`, times the scale of the code's tile. -/
def termY (h : Vec Ideal S36x256x5632 .bf16) (q : Vec Ideal S5632x2048 .fp8e4m3) (s : Vec Ideal S44x16 .f32)
    (r : Fin 9216) (l : Fin 2048) (k : Fin 5632) : EReal :=
  h (ix3 (n0 := 36) (n1 := 256) (n2 := 5632) ⟨r.val / 256, by omega⟩ ⟨r.val % 256, by omega⟩ k)
    * (q (ix2 k l) * s (ix2 (n0 := 44) (n1 := 16) ⟨k.val / 128, by omega⟩ ⟨l.val / 128, by omega⟩))

/-- The same with the codes transposed: row `l`, hidden column `k`. -/
def termX (d : Vec Ideal S36x256x5632 .bf16) (q : Vec Ideal S2048x5632 .fp8e4m3) (s : Vec Ideal S16x44 .f32)
    (r : Fin 9216) (l : Fin 2048) (k : Fin 5632) : EReal :=
  d (ix3 (n0 := 36) (n1 := 256) (n2 := 5632) ⟨r.val / 256, by omega⟩ ⟨r.val % 256, by omega⟩ k)
    * (q (ix2 l k) * s (ix2 (n0 := 16) (n1 := 44) ⟨l.val / 128, by omega⟩ ⟨k.val / 128, by omega⟩))

/-- The block indices of the nine inputs at a point: the scales whole, the tile of tokens and the column block. -/
theorem idx_in : ∀ t : Fin cfg0.N,
    win0_0.index t = ![0, 0] ∧ win0_1.index t = ![0, 0] ∧ win0_2.index t = ![0, 0]
    ∧ win0_3.index t = ![t.val / 11, 0, t.val % 11] ∧ win0_4.index t = ![t.val / 11, 0, t.val % 11]
    ∧ win0_5.index t = ![t.val / 11, 0, t.val % 11]
    ∧ win0_6.index t = ![0, t.val % 11] ∧ win0_7.index t = ![0, t.val % 11] ∧ win0_8.index t = ![t.val % 11, 0]
    ∧ ((grid0.coords t) 1).val = t.val % 11 :=
  (by decide +kernel : ∀ t : Fin grid0.N, _)

/-- Window 0's block is its whole array of scales. -/
theorem blk0 (c : Dev nD) (t : Fin cfg0.N) (a : Fin 16) (b : Fin 44) :
    (iblk m c 0 t : Vec Ideal S16x44 .f32) (ix2 a b) = (m ((c : Thread nD τ).loc main_arg0) : Vec Ideal S16x44 .f32) (ix2 a b) := by
  blk_ext [iblk, V, (idx_in t).1]

/-- Window 1's block is its whole array of scales. -/
theorem blk1 (c : Dev nD) (t : Fin cfg0.N) (a : Fin 16) (b : Fin 44) :
    (iblk m c 1 t : Vec Ideal S16x44 .f32) (ix2 a b) = (m ((c : Thread nD τ).loc main_arg1) : Vec Ideal S16x44 .f32) (ix2 a b) := by
  blk_ext [iblk, V, (idx_in t).2.1]

/-- Window 2's block is its whole array of scales. -/
theorem blk2 (c : Dev nD) (t : Fin cfg0.N) (a : Fin 44) (b : Fin 16) :
    (iblk m c 2 t : Vec Ideal S44x16 .f32) (ix2 a b) = (m ((c : Thread nD τ).loc main_arg2) : Vec Ideal S44x16 .f32) (ix2 a b) := by
  blk_ext [iblk, V, (idx_in t).2.2.1]

/-- Window 3's block is its array at the point's tile of tokens and column block. -/
theorem blk3 (c : Dev nD) (t : Fin cfg0.N) (a : Fin 2) (b : Fin 256) (k : Fin 512) (A : Fin 36) (K : Fin 5632)
    (hA : A.val = t.val / 11 * 2 + a.val) (hK : K.val = t.val % 11 * 512 + k.val) :
    (iblk m c 3 t : Vec Ideal S2x256x512 .bf16) (ix3 a b k) = (m ((c : Thread nD τ).loc main_arg3) : Vec Ideal S36x256x5632 .bf16) (ix3 A b K) := by
  blk_ext [iblk, V, (idx_in t).2.2.2.1]

/-- Window 4's block is its array at the point's tile of tokens and column block. -/
theorem blk4 (c : Dev nD) (t : Fin cfg0.N) (a : Fin 2) (b : Fin 256) (k : Fin 512) (A : Fin 36) (K : Fin 5632)
    (hA : A.val = t.val / 11 * 2 + a.val) (hK : K.val = t.val % 11 * 512 + k.val) :
    (iblk m c 4 t : Vec Ideal S2x256x512 .bf16) (ix3 a b k) = (m ((c : Thread nD τ).loc main_arg4) : Vec Ideal S36x256x5632 .bf16) (ix3 A b K) := by
  blk_ext [iblk, V, (idx_in t).2.2.2.2.1]

/-- Window 5's block is its array at the point's tile of tokens and column block. -/
theorem blk5 (c : Dev nD) (t : Fin cfg0.N) (a : Fin 2) (b : Fin 256) (k : Fin 512) (A : Fin 36) (K : Fin 5632)
    (hA : A.val = t.val / 11 * 2 + a.val) (hK : K.val = t.val % 11 * 512 + k.val) :
    (iblk m c 5 t : Vec Ideal S2x256x512 .bf16) (ix3 a b k) = (m ((c : Thread nD τ).loc main_arg5) : Vec Ideal S36x256x5632 .bf16) (ix3 A b K) := by
  blk_ext [iblk, V, (idx_in t).2.2.2.2.2.1]

/-- Window 6's block is its array at the point's column block. -/
theorem blk6 (c : Dev nD) (t : Fin cfg0.N) (l : Fin 2048) (k : Fin 512) (K : Fin 5632) (hK : K.val = t.val % 11 * 512 + k.val) :
    (iblk m c 6 t : Vec Ideal S2048x512 .fp8e4m3) (ix2 l k) = (m ((c : Thread nD τ).loc main_arg6) : Vec Ideal S2048x5632 .fp8e4m3) (ix2 l K) := by
  blk_ext [iblk, V, (idx_in t).2.2.2.2.2.2.1]

/-- Window 7's block is its array at the point's column block. -/
theorem blk7 (c : Dev nD) (t : Fin cfg0.N) (l : Fin 2048) (k : Fin 512) (K : Fin 5632) (hK : K.val = t.val % 11 * 512 + k.val) :
    (iblk m c 7 t : Vec Ideal S2048x512 .fp8e4m3) (ix2 l k) = (m ((c : Thread nD τ).loc main_arg7) : Vec Ideal S2048x5632 .fp8e4m3) (ix2 l K) := by
  blk_ext [iblk, V, (idx_in t).2.2.2.2.2.2.2.1]

/-- Window 8's block is its array at the point's block of rows. -/
theorem blk8 (c : Dev nD) (t : Fin cfg0.N) (k : Fin 512) (l : Fin 2048) (K : Fin 5632) (hK : K.val = t.val % 11 * 512 + k.val) :
    (iblk m c 8 t : Vec Ideal S512x2048 .fp8e4m3) (ix2 k l) = (m ((c : Thread nD τ).loc main_arg8) : Vec Ideal S5632x2048 .fp8e4m3) (ix2 K l) := by
  blk_ext [iblk, V, (idx_in t).2.2.2.2.2.2.2.2.1]

/-- A point's product for the output is the sum of its terms over the point's block of hidden columns. -/
theorem y_point (c : Dev nD) (t : Fin cfg0.N) (r : Fin 512) (l : Fin 2048) (R : Fin 9216) (hR : R.val = t.val / 11 * 512 + r.val) :
    prodY (iblk m c 3 t) (wideRows (grid0.coords t) (iblk m c 8 t) (iblk m c 2 t)) (ix2 r l)
      = ∑ k : Fin 512, termY (m ((c : Thread nD τ).loc main_arg3) : Vec Ideal S36x256x5632 .bf16) (m ((c : Thread nD τ).loc main_arg8) : Vec Ideal S5632x2048 .fp8e4m3) (m ((c : Thread nD τ).loc main_arg2) : Vec Ideal S44x16 .f32) R l ⟨t.val % 11 * 512 + k.val, by omega⟩ := by
  refine Finset.sum_congr rfl fun k _ => ?_
  have hk := k.isLt
  have hc := (idx_in t).2.2.2.2.2.2.2.2.2
  refine congrArg₂ (· * ·) ((blk3 m c t _ _ k ⟨R.val / 256, by omega⟩ ⟨t.val % 11 * 512 + k.val, by omega⟩
    (by show R.val / 256 = t.val / 11 * 2 + r.val / 256; omega) rfl).trans ?_) ?_
  · exact congrArg (fun b : Fin 256 => (m ((c : Thread nD τ).loc main_arg3) : Vec Ideal S36x256x5632 .bf16) (ix3 _ b _)) (Fin.ext (by show r.val % 256 = R.val % 256; omega))
  · refine congrArg₂ (· * ·) (blk8 m c t k l ⟨t.val % 11 * 512 + k.val, by omega⟩ rfl) ((blk2 m c t _ _).trans ?_)
    refine congrArg (fun g : Fin 44 => (m ((c : Thread nD τ).loc main_arg2) : Vec Ideal S44x16 .f32) (ix2 g _)) (Fin.ext ?_)
    show ((grid0.coords t) 1).val * 4 + k.val / 128 = (t.val % 11 * 512 + k.val) / 128
    rw [hc]; omega

/-- A point's product for the first gradient's part is the sum of its terms over the point's block of hidden columns. -/
theorem xa_point (c : Dev nD) (t : Fin cfg0.N) (r : Fin 512) (l : Fin 2048) (R : Fin 9216) (hR : R.val = t.val / 11 * 512 + r.val) :
    prodT (iblk m c 4 t) (wideCols (grid0.coords t) (iblk m c 6 t) (iblk m c 0 t)) (ix2 r l)
      = ∑ k : Fin 512, termX (m ((c : Thread nD τ).loc main_arg4) : Vec Ideal S36x256x5632 .bf16) (m ((c : Thread nD τ).loc main_arg6) : Vec Ideal S2048x5632 .fp8e4m3) (m ((c : Thread nD τ).loc main_arg0) : Vec Ideal S16x44 .f32) R l ⟨t.val % 11 * 512 + k.val, by omega⟩ := by
  refine Finset.sum_congr rfl fun k _ => ?_
  have hk := k.isLt
  have hc := (idx_in t).2.2.2.2.2.2.2.2.2
  refine congrArg₂ (· * ·) ((blk4 m c t _ _ k ⟨R.val / 256, by omega⟩ ⟨t.val % 11 * 512 + k.val, by omega⟩
    (by show R.val / 256 = t.val / 11 * 2 + r.val / 256; omega) rfl).trans ?_) ?_
  · exact congrArg (fun b : Fin 256 => (m ((c : Thread nD τ).loc main_arg4) : Vec Ideal S36x256x5632 .bf16) (ix3 _ b _)) (Fin.ext (by show r.val % 256 = R.val % 256; omega))
  · refine congrArg₂ (· * ·) (blk6 m c t l k ⟨t.val % 11 * 512 + k.val, by omega⟩ rfl) ((blk0 m c t _ _).trans ?_)
    refine congrArg (fun g : Fin 44 => (m ((c : Thread nD τ).loc main_arg0) : Vec Ideal S16x44 .f32) (ix2 _ g)) (Fin.ext ?_)
    show ((grid0.coords t) 1).val * 4 + k.val / 128 = (t.val % 11 * 512 + k.val) / 128
    rw [hc]; omega

/-- A point's product for the second gradient's part is the sum of its terms over the point's block of hidden columns. -/
theorem xb_point (c : Dev nD) (t : Fin cfg0.N) (r : Fin 512) (l : Fin 2048) (R : Fin 9216) (hR : R.val = t.val / 11 * 512 + r.val) :
    prodT (iblk m c 5 t) (wideCols (grid0.coords t) (iblk m c 7 t) (iblk m c 1 t)) (ix2 r l)
      = ∑ k : Fin 512, termX (m ((c : Thread nD τ).loc main_arg5) : Vec Ideal S36x256x5632 .bf16) (m ((c : Thread nD τ).loc main_arg7) : Vec Ideal S2048x5632 .fp8e4m3) (m ((c : Thread nD τ).loc main_arg1) : Vec Ideal S16x44 .f32) R l ⟨t.val % 11 * 512 + k.val, by omega⟩ := by
  refine Finset.sum_congr rfl fun k _ => ?_
  have hk := k.isLt
  have hc := (idx_in t).2.2.2.2.2.2.2.2.2
  refine congrArg₂ (· * ·) ((blk5 m c t _ _ k ⟨R.val / 256, by omega⟩ ⟨t.val % 11 * 512 + k.val, by omega⟩
    (by show R.val / 256 = t.val / 11 * 2 + r.val / 256; omega) rfl).trans ?_) ?_
  · exact congrArg (fun b : Fin 256 => (m ((c : Thread nD τ).loc main_arg5) : Vec Ideal S36x256x5632 .bf16) (ix3 _ b _)) (Fin.ext (by show r.val % 256 = R.val % 256; omega))
  · refine congrArg₂ (· * ·) (blk7 m c t l k ⟨t.val % 11 * 512 + k.val, by omega⟩ rfl) ((blk1 m c t _ _).trans ?_)
    refine congrArg (fun g : Fin 44 => (m ((c : Thread nD τ).loc main_arg1) : Vec Ideal S16x44 .f32) (ix2 _ g)) (Fin.ext ?_)
    show ((grid0.coords t) 1).val * 4 + k.val / 128 = (t.val % 11 * 512 + k.val) / 128
    rw [hc]; omega

/-- After the last column block the output's running sum is the sum over all hidden columns. -/
theorem y_total (c : Dev nD) (t : Fin cfg0.N) (hr : t.val % 11 = 11 - 1) (r : Fin 512) (l : Fin 2048) (R : Fin 9216) (hR : R.val = t.val / 11 * 512 + r.val) :
    (outsAt0 m c t.val t.isLt).2.2.1 (ix2 r l)
      = ∑ k : Fin 5632, termY (m ((c : Thread nD τ).loc main_arg3) : Vec Ideal S36x256x5632 .bf16) (m ((c : Thread nD τ).loc main_arg8) : Vec Ideal S5632x2048 .fp8e4m3) (m ((c : Thread nD τ).loc main_arg2) : Vec Ideal S44x16 .f32) R l k := by
  refine (Pipeline.eq_sum_fin_of_reset_step_of_flush (fun n h => (outsAt0 m c n h).2.2.1 (ix2 r l)) 11 0 _
    (fun t h => y_A m c t h (ix2 r l)) (fun t h => y_S m c t h (ix2 r l)) t hr).trans ?_
  rw [zero_add]
  refine Eq.trans (Finset.sum_congr rfl fun s _ => ?_) (Fin.sum_mul_add_fin 11 512 _)
  have hs : (11 * (t.val / 11) + s.val) % 11 = s.val := by omega
  have hd : (11 * (t.val / 11) + s.val) / 11 = t.val / 11 := by omega
  refine (y_point m c _ r l R (by simp only [hd]; exact hR)).trans (Finset.sum_congr rfl fun k _ => ?_)
  simp only [hs]

/-- After the last column block the input gradient's running sum is two sums over all hidden columns. -/
theorem x_total (c : Dev nD) (t : Fin cfg0.N) (hr : t.val % 11 = 11 - 1) (r : Fin 512) (l : Fin 2048) (R : Fin 9216) (hR : R.val = t.val / 11 * 512 + r.val) :
    (outsAt0 m c t.val t.isLt).2.2.2 (ix2 r l)
      = (∑ k : Fin 5632, termX (m ((c : Thread nD τ).loc main_arg4) : Vec Ideal S36x256x5632 .bf16) (m ((c : Thread nD τ).loc main_arg6) : Vec Ideal S2048x5632 .fp8e4m3) (m ((c : Thread nD τ).loc main_arg0) : Vec Ideal S16x44 .f32) R l k)
        + ∑ k : Fin 5632, termX (m ((c : Thread nD τ).loc main_arg5) : Vec Ideal S36x256x5632 .bf16) (m ((c : Thread nD τ).loc main_arg7) : Vec Ideal S2048x5632 .fp8e4m3) (m ((c : Thread nD τ).loc main_arg1) : Vec Ideal S16x44 .f32) R l k := by
  refine (Pipeline.eq_sum_fin_of_reset_step_of_flush (fun n h => (outsAt0 m c n h).2.2.2 (ix2 r l)) 11 0 _
    (fun t h => x_A m c t h (ix2 r l)) (fun t h => x_S m c t h (ix2 r l)) t hr).trans ?_
  rw [zero_add]
  refine Finset.sum_add_distrib.trans (congrArg₂ (· + ·) ?_ ?_)
  · refine Eq.trans (Finset.sum_congr rfl fun s _ => ?_) (Fin.sum_mul_add_fin 11 512 _)
    have hs : (11 * (t.val / 11) + s.val) % 11 = s.val := by omega
    have hd : (11 * (t.val / 11) + s.val) / 11 = t.val / 11 := by omega
    refine (xa_point m c _ r l R (by simp only [hd]; exact hR)).trans (Finset.sum_congr rfl fun k _ => ?_)
    simp only [hs]
  · refine Eq.trans (Finset.sum_congr rfl fun s _ => ?_) (Fin.sum_mul_add_fin 11 512 _)
    have hs : (11 * (t.val / 11) + s.val) % 11 = s.val := by omega
    have hd : (11 * (t.val / 11) + s.val) / 11 = t.val / 11 := by omega
    refine (xb_point m c _ r l R (by simp only [hd]; exact hR)).trans (Finset.sum_congr rfl fun k _ => ?_)
    simp only [hs]

end Cert.OutIdeal.Val
end
-- ==== Proof.OutArrays.lean ====
/-
  THE OUTPUT AND INPUT-GRADIENT ARRAYS OF THE KERNEL, at an index: sums over all hidden columns.
-/
module

public import proofs.«01_k».proof.Proof.OutFold

@[expose] public section

set_option maxRecDepth 16384

noncomputable section

open Idealize.ShloMosaic Idealize.ShloMosaic.TcCoe Idealize.SL.Sem Idealize.ShloMosaic.Tactic
open Idealize.ShloMosaic.Pipeline (Dat)

namespace Cert.OutIdeal.Val

open Cert.OutIdeal Cert.OutIdeal.Gen

variable (m : (ℓ : Loc nD τ sig) → Buf (Elt Ideal) ℓ)

/-- The output array. -/
theorem array9 (c : Dev nD) (R : Fin 9216) (l : Fin 2048) :
    ((Value.G9 m c : Vec Ideal S9216x2048 .bf16) (ix2 R l) : EReal)
      = ∑ k : Fin 5632, termY (m ((c : Thread nD τ).loc main_arg3) : Vec Ideal S36x256x5632 .bf16) (m ((c : Thread nD τ).loc main_arg8) : Vec Ideal S5632x2048 .fp8e4m3) (m ((c : Thread nD τ).loc main_arg2) : Vec Ideal S44x16 .f32) R l k := by
  have hR := R.isLt
  have hl := l.isLt
  have hp : Value.pt9Of (ix2 R l) = 11 * (R.val / 512) + 10 := by
    show 11 * (1 * (R.val / 512 - 0) + 1 * (l.val / 2048 - 0)) + 10 = _
    omega
  have hn : Value.pt9Of (ix2 R l) < cfg0.N := lt_of_lt_of_eq (by rw [hp]; omega) N_0.symm
  have hm : Value.pt9Of (ix2 R l) % 11 = 10 := by omega
  refine (dif_pos hn).trans ?_
  rw [← Value.outsAt0_sweep m c _ hn]
  refine (y_out m c ⟨Value.pt9Of (ix2 R l), hn⟩ hm _).trans ?_
  refine Eq.trans (congrArg _ ?_) (y_total m c ⟨Value.pt9Of (ix2 R l), hn⟩ hm
    ⟨R.val % 512, Nat.mod_lt _ (by decide)⟩ l R (by show _ = Value.pt9Of (ix2 R l) / 11 * 512 + R.val % 512; omega))
  funext a; apply Fin.ext
  match a with
  | ⟨0, _⟩ => rfl
  | ⟨1, _⟩ => exact Nat.mod_eq_of_lt hl

/-- The input gradient array. -/
theorem array10 (c : Dev nD) (R : Fin 9216) (l : Fin 2048) :
    ((Value.G10 m c : Vec Ideal S9216x2048 .bf16) (ix2 R l) : EReal)
      = (∑ k : Fin 5632, termX (m ((c : Thread nD τ).loc main_arg4) : Vec Ideal S36x256x5632 .bf16) (m ((c : Thread nD τ).loc main_arg6) : Vec Ideal S2048x5632 .fp8e4m3) (m ((c : Thread nD τ).loc main_arg0) : Vec Ideal S16x44 .f32) R l k)
        + ∑ k : Fin 5632, termX (m ((c : Thread nD τ).loc main_arg5) : Vec Ideal S36x256x5632 .bf16) (m ((c : Thread nD τ).loc main_arg7) : Vec Ideal S2048x5632 .fp8e4m3) (m ((c : Thread nD τ).loc main_arg1) : Vec Ideal S16x44 .f32) R l k := by
  have hR := R.isLt
  have hl := l.isLt
  have hp : Value.pt10Of (ix2 R l) = 11 * (R.val / 512) + 10 := by
    show 11 * (1 * (R.val / 512 - 0) + 1 * (l.val / 2048 - 0)) + 10 = _
    omega
  have hn : Value.pt10Of (ix2 R l) < cfg0.N := lt_of_lt_of_eq (by rw [hp]; omega) N_0.symm
  have hm : Value.pt10Of (ix2 R l) % 11 = 10 := by omega
  refine (dif_pos hn).trans ?_
  rw [← Value.outsAt0_sweep m c _ hn]
  refine (x_out m c ⟨Value.pt10Of (ix2 R l), hn⟩ hm _).trans ?_
  refine Eq.trans (congrArg _ ?_) (x_total m c ⟨Value.pt10Of (ix2 R l), hn⟩ hm
    ⟨R.val % 512, Nat.mod_lt _ (by decide)⟩ l R (by show _ = Value.pt10Of (ix2 R l) / 11 * 512 + R.val % 512; omega))
  funext a; apply Fin.ext
  match a with
  | ⟨0, _⟩ => rfl
  | ⟨1, _⟩ => exact Nat.mod_eq_of_lt hl

end Cert.OutIdeal.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Skeleton
public import proofs.«01_k».proof.Proof.Gen.OutReferenceIdeal.Launch
public import proofs.«01_k».proof.Proof.Gen.OutReferenceIdeal.Points
public import proofs.«01_k».proof.Proof.Gen.OutReferenceIdeal.Frame
public import proofs.«01_k».proof.Proof.Gen.OutReferenceIdeal.Value
public import proofs.«01_k».proof.Proof.Gen.ReferenceIdeal.Value
public import proofs.«01_k».proof.Proof.Gen.Pre_scales_nonnegative
public import proofs.«01_k».proof.Proof.Scales
public import proofs.«01_k».proof.Proof.OutTerms
public import proofs.«01_k».proof.Proof.OutArrays
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- Over the reals, where no scale is negative, the kernel and the reference leave equal arrays: element by element
    both are the sum over the tokens of activation times code times scale. -/
theorem algebraic [Cert.KernelIdeal.Facts] [Cert.ReferenceIdeal.Facts] [Cert.Pre_scales_nonnegative.Facts] :
    Cert.algebraic_KernelIdeal_ReferenceIdeal_pre_scales_nonnegative := by
  pair_intro
  · run_from (Cert.KernelIdeal.Value.run m g)
  · run_from (Cert.ReferenceIdeal.Value.run m' g')
    · funext y
      idx_vars y
      refine (Cert.ReferenceIdeal.Val.first_apply (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) y0 y1).trans
        (Eq.trans ?_ (Cert.KernelIdeal.Val.array8 m c y0 y1).symm)
      exact Finset.sum_congr rfl fun k _ => (Cert.KernelIdeal.Val.term_eq _ _ _
        (Cert.KernelIdeal.Val.nonneg_of_oge _ _ (hpre c).1) y0 y1 k).symm
    · funext y
      idx_vars y
      refine (Cert.ReferenceIdeal.Val.second_apply (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) y0 y1).trans
        (Eq.trans ?_ (Cert.KernelIdeal.Val.array9 m c y0 y1).symm)
      exact Finset.sum_congr rfl fun k _ => (Cert.KernelIdeal.Val.term_eq _ _ _
        (Cert.KernelIdeal.Val.nonneg_of_oge _ _ (hpre c).2.1) y0 y1 k).symm
    · funext y
      idx_vars y
      refine (Cert.ReferenceIdeal.Val.third_apply (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) y0 y1).trans
        (Eq.trans ?_ (Cert.KernelIdeal.Val.array10 m c y0 y1).symm)
      exact Finset.sum_congr rfl fun k _ => (Cert.KernelIdeal.Val.term_eq _ _ _
        (Cert.KernelIdeal.Val.nonneg_of_oge _ _ (hpre c).2.2) y1 y0 k).symm

/-- Over the reals the output and input-gradient kernel and its reference leave equal arrays: element by element both are
    the same sums over the hidden columns. -/
theorem algebraic_out [Cert.OutIdeal.Facts] [Cert.OutReferenceIdeal.Facts] :
    Cert.algebraic_OutIdeal_OutReferenceIdeal := by
  pair_intro
  · run_from (Cert.OutIdeal.Value.run m g)
  · run_from (Cert.OutReferenceIdeal.Value.run m' g')
    · funext y
      idx_vars y
      exact (Cert.OutReferenceIdeal.Val.first_apply (m (c.tc.loc Cert.OutIdeal.main_arg0)) (m (c.tc.loc Cert.OutIdeal.main_arg1)) (m (c.tc.loc Cert.OutIdeal.main_arg2)) (m (c.tc.loc Cert.OutIdeal.main_arg3)) (m (c.tc.loc Cert.OutIdeal.main_arg4)) (m (c.tc.loc Cert.OutIdeal.main_arg5)) (m (c.tc.loc Cert.OutIdeal.main_arg6)) (m (c.tc.loc Cert.OutIdeal.main_arg7)) (m (c.tc.loc Cert.OutIdeal.main_arg8)) y0 y1).trans
        (Cert.OutIdeal.Val.array9 m c y0 y1).symm
    · funext y
      idx_vars y
      exact (Cert.OutReferenceIdeal.Val.second_apply (m (c.tc.loc Cert.OutIdeal.main_arg0)) (m (c.tc.loc Cert.OutIdeal.main_arg1)) (m (c.tc.loc Cert.OutIdeal.main_arg2)) (m (c.tc.loc Cert.OutIdeal.main_arg3)) (m (c.tc.loc Cert.OutIdeal.main_arg4)) (m (c.tc.loc Cert.OutIdeal.main_arg5)) (m (c.tc.loc Cert.OutIdeal.main_arg6)) (m (c.tc.loc Cert.OutIdeal.main_arg7)) (m (c.tc.loc Cert.OutIdeal.main_arg8)) y0 y1).trans
        (Cert.OutIdeal.Val.array10 m c y0 y1).symm

/-- All the statements: each program runs to its end leaving its arguments unchanged and its counters at zero; each kernel
    over the reals is the same text; and over the reals each kernel leaves its reference's arrays. -/
theorem claim : Cert.Claim := ⟨Cert.Kernel.Gen.facts, Cert.KernelIdeal.Gen.facts, Cert.ReferenceIdeal.Gen.facts, Cert.Out.Gen.facts,
  Cert.OutIdeal.Gen.facts, Cert.OutReferenceIdeal.Gen.facts, Cert.Pre_scales_nonnegative.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g,
  fun m g _ => Cert.Out.Gen.frame m g, fun m g _ => Cert.OutIdeal.Gen.frame m g, fun m g _ => Cert.OutReferenceIdeal.Gen.frame m g,
  trivial, algebraic, trivial, algebraic_out⟩

end Cert.Proof

end
